-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bias_constant [hPre_bias_constant : Cert.Pre_bias_constant.Facts] (m : (ℓ : Loc Cert.KernelIdeal.nD Cert.KernelIdeal.τ Cert.KernelIdeal.sig) → Buf (Elt Ideal) ℓ) : Prop :=
  ∀ c : Dev Cert.KernelIdeal.nD,
    (Cert.Pre_bias_constant.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bias_constant [hPre_bias_constant : Cert.Pre_bias_constant.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bias_constant.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_bias_constant [hKernelIdeal : Cert.KernelIdeal.Facts] [hPre_bias_constant : Cert.Pre_bias_constant.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bias_constant m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_bias_constant [hReferenceIdeal : Cert.ReferenceIdeal.Facts] [hPre_bias_constant : Cert.Pre_bias_constant.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bias_constant m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_bias_constant [hKernelIdeal : Cert.KernelIdeal.Facts] [hReferenceIdeal : Cert.ReferenceIdeal.Facts] [hPre_bias_constant : Cert.Pre_bias_constant.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bias_constant m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_indices_12) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_bias_constant : Cert.Pre_bias_constant.Facts),
    quiescent_Kernel (hKernel := hKernel)
    ∧ quiescent_KernelIdeal (hKernelIdeal := hKernelIdeal)
    ∧ quiescent_KernelIdeal_pre_bias_constant (hKernelIdeal := hKernelIdeal) (hPre_bias_constant := hPre_bias_constant)
    ∧ quiescent_ReferenceIdeal (hReferenceIdeal := hReferenceIdeal)
    ∧ quiescent_ReferenceIdeal_pre_bias_constant (hReferenceIdeal := hReferenceIdeal) (hPre_bias_constant := hPre_bias_constant)
    ∧ preserves_Kernel_KernelIdeal
    ∧ algebraic_KernelIdeal_ReferenceIdeal_pre_bias_constant (hKernelIdeal := hKernelIdeal) (hReferenceIdeal := hReferenceIdeal) (hPre_bias_constant := hPre_bias_constant)
-- ==== Pre_bias_constant.lean ====
abbrev S16384x4096 : Shape := ⟨2, ![16384, 4096]⟩
abbrev S128x4096 : Shape := ⟨2, ![128, 4096]⟩
abbrev S128 : Shape := ⟨1, ![128]⟩
abbrev S1 : Shape := ⟨1, ![1]⟩
abbrev S_ : Shape := ⟨0, ![]⟩

class Facts : Prop where
  slices_S128_S1_0 : S128.Slices ![0] S1
  shapeCasts_S1_S_ : S1.ShapeCasts S_
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S16384x4096 .f32) (main_arg1 : FVec F S128x4096 .f32) (main_arg2 : FVec F S128 .f32) : IVec S_ 1 :=
  let main_v0 : FVec F S1 .f32 := (extractStridedSlice S1 ![0] · slices_S128_S1_0) main_arg2
  let main_v1 : FVec F S_ .f32 := shapeCast S_ main_v0 shapeCasts_S1_S_
  let main_v2 : FVec F S128 .f32 := broadcastInDim S128 ![] bcast_S_S128 main_v1
  let main_v3 : IVec S128 1 := cmpf .oeq main_arg2 main_v2
  let main_v4 : FVec F S128 .f32 := Host.absf main_arg2
  let main_cst : FVec F S_ .f32 := constant S_ .f32 0x7F800000#32
  let main_v5 : FVec F S128 .f32 := broadcastInDim S128 ![] bcast_S_S128 main_cst
  let main_v6 : IVec S128 1 := cmpf .olt main_v4 main_v5
  let main_v7 : IVec S128 1 := andi main_v3 main_v6
  let main_c : IVec S_ 1 := constantI S_ 1 1#1
  let main_v8 : IVec S_ 1 := (fun x v => Host.reduce IntOp.andi x v reducesTo_S128_S_d0 h_S_) main_v7 main_c
  main_v8
-- ==== Kernel.lean ====
abbrev S16384x4096 : Shape := ⟨2, ![16384, 4096]⟩
abbrev S128x4096 : Shape := ⟨2, ![128, 4096]⟩
abbrev S128 : Shape := ⟨1, ![128]⟩
abbrev S8x16384 : Shape := ⟨2, ![8, 16384]⟩
abbrev S1024x4096 : Shape := ⟨2, ![1024, 4096]⟩
abbrev S8x1024 : Shape := ⟨2, ![8, 1024]⟩
abbrev S1024x128 : Shape := ⟨2, ![1024, 128]⟩
abbrev S128x1024 : Shape := ⟨2, ![128, 1024]⟩
abbrev S1024 : Shape := ⟨1, ![1024]⟩
abbrev S1x1024 : Shape := ⟨2, ![1, 1024]⟩
abbrev S16384x8 : Shape := ⟨2, ![16384, 8]⟩

abbrev nBuf : Space → Nat
  | .hbm => 7
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S128x4096, .f32⟩
  | .hbm, ⟨2, _⟩ => ⟨S128, .f32⟩
  | .hbm, ⟨3, _⟩ => ⟨S8x16384, .i32⟩
  | .hbm, ⟨4, _⟩ => ⟨S8x16384, .f32⟩
  | .hbm, ⟨5, _⟩ => ⟨S16384x8, .i32⟩
  | .hbm, ⟨6, _⟩ => ⟨S16384x8, .f32⟩
  | .local _ .vmem, ⟨0, _⟩ => ⟨S1024x4096, .f32⟩
  | .local _ .vmem, ⟨1, _⟩ => ⟨S1024x4096, .f32⟩
  | .local _ .vmem, ⟨2, _⟩ => ⟨S128x4096, .f32⟩
  | .local _ .vmem, ⟨3, _⟩ => ⟨S8x1024, .i32⟩
  | .local _ .vmem, ⟨4, _⟩ => ⟨S8x1024, .i32⟩
  | .local _ .vmem, ⟨5, _⟩ => ⟨S8x1024, .f32⟩
  | .local _ .vmem, ⟨6, _⟩ => ⟨S8x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x1024 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S16384x4096 : Shape := ⟨2, ![16384, 4096]⟩
abbrev S128x4096 : Shape := ⟨2, ![128, 4096]⟩
abbrev S128 : Shape := ⟨1, ![128]⟩
abbrev S4096x128 : Shape := ⟨2, ![4096, 128]⟩
abbrev S16384x128 : Shape := ⟨2, ![16384, 128]⟩
abbrev S_ : Shape := ⟨0, ![]⟩
abbrev S1x128 : Shape := ⟨2, ![1, 128]⟩
abbrev S16384x1x128 : Shape := ⟨3, ![16384, 1, 128]⟩
abbrev S16384x1x2 : Shape := ⟨3, ![16384, 1, 2]⟩
abbrev S16384x1 : Shape := ⟨2, ![16384, 1]⟩
abbrev S16384 : Shape := ⟨1, ![16384]⟩
abbrev S16384x1x1 : Shape := ⟨3, ![16384, 1, 1]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩

abbrev nBuf : Space → Nat
  | .hbm => 93
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S128x4096, .f32⟩
  | .hbm, ⟨2, _⟩ => ⟨S128, .f32⟩
  | .hbm, ⟨3, _⟩ => ⟨S4096x128, .f32⟩
  | .hbm, ⟨4, _⟩ => ⟨S16384x128, .f32⟩
  | .hbm, ⟨5, _⟩ => ⟨S16384x128, .f32⟩
  | .hbm, ⟨6, _⟩ => ⟨S16384x128, .f32⟩
  | .hbm, ⟨7, _⟩ => ⟨S_, .f32⟩
  | .hbm, ⟨8, _⟩ => ⟨S16384x128, .f32⟩
  | .hbm, ⟨9, _⟩ => ⟨S16384x128, .f32⟩
  | .hbm, ⟨10, _⟩ => ⟨S_, .f32⟩
  | .hbm, ⟨11, _⟩ => ⟨S16384x128, .f32⟩
  | .hbm, ⟨12, _⟩ => ⟨S16384x128, .f32⟩
  | .hbm, ⟨13, _⟩ => ⟨S1x128, .f32⟩
  | .hbm, ⟨14, _⟩ => ⟨S16384x128, .f32⟩
  | .hbm, ⟨15, _⟩ => ⟨S16384x128, .f32⟩
  | .hbm, ⟨16, _⟩ => ⟨S16384x1x128, .f32⟩
  | .hbm, ⟨17, _⟩ => ⟨S16384x1x2, .f32⟩
  | .hbm, ⟨18, _⟩ => ⟨S16384x1x2, .i32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S16384x1, .i32⟩
  | .hbm, ⟨23, _⟩ => ⟨S_, .f32⟩
  | .hbm, ⟨24, _⟩ => ⟨S16384x1, .f32⟩
  | .hbm, ⟨25, _⟩ => ⟨S16384, .i32⟩
  | .hbm, ⟨26, _⟩ => ⟨S16384x1, .i32⟩
  | .hbm, ⟨27, _⟩ => ⟨S_, .i32⟩
  | .hbm, ⟨28, _⟩ => ⟨S16384x1, .i32⟩
  | .hbm, ⟨29, _⟩ => ⟨S16384x1, .i1⟩
  | .hbm, ⟨30, _⟩ => ⟨S_, .i32⟩
  | .hbm, ⟨31, _⟩ => ⟨S16384x1, .i32⟩
  | .hbm, ⟨32, _⟩ => ⟨S16384x1, .i32⟩
  | .hbm, ⟨33, _⟩ => ⟨S16384x1, .i32⟩
  | .hbm, ⟨34, _⟩ => ⟨S_, .i32⟩
  | .hbm, ⟨35, _⟩ => ⟨S16384x1, .i32⟩
  | .hbm, ⟨36, _⟩ => ⟨S16384x1, .i1⟩
  | .hbm, ⟨37, _⟩ => ⟨S_, .i32⟩
  | .hbm, ⟨38, _⟩ => ⟨S16384x1, .i32⟩
  | .hbm, ⟨39, _⟩ => ⟨S16384x1, .i32⟩
  | .hbm, ⟨40, _⟩ => ⟨S16384x1, .i32⟩
  | .hbm, ⟨41, _⟩ => ⟨S16384x1x1, .i32⟩
  | .hbm, ⟨42, _⟩ => ⟨S16384x1x1, .i32⟩
  | .hbm, ⟨43, _⟩ => ⟨S16384x1x2, .i32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1x1, .f32⟩
  | .hbm, ⟨48, _⟩ => ⟨S16384x1x128, .f32⟩
  | .hbm, ⟨49, _⟩ => ⟨S16384x128, .f32⟩
  | .hbm, ⟨50, _⟩ => ⟨S_, .f32⟩
  | .hbm, ⟨51, _⟩ => ⟨S16384x128, .f32⟩
  | .hbm, ⟨52, _⟩ => ⟨S16384x128, .i1⟩
  | .hbm, ⟨53, _⟩ => ⟨S16384x128, .i1⟩
  | .hbm, ⟨54, _⟩ => ⟨S_, .f32⟩
  | .hbm, ⟨55, _⟩ => ⟨S_, .f32⟩
  | .hbm, ⟨56, _⟩ => ⟨S16384x128, .f32⟩
  | .hbm, ⟨57, _⟩ => ⟨S16384x128, .f32⟩
  | .hbm, ⟨58, _⟩ => ⟨S16384x8, .f32⟩
  | .hbm, ⟨59, _⟩ => ⟨S16384x8, .i32⟩
  | .hbm, ⟨60, _⟩ => ⟨S_, .i32⟩
  | .hbm, ⟨61, _⟩ => ⟨S16384x8, .i32⟩
  | .hbm, ⟨62, _⟩ => ⟨S16384x8, .i1⟩
  | .hbm, ⟨63, _⟩ => ⟨S_, .i32⟩
  | .hbm, ⟨64, _⟩ => ⟨S16384x8, .i32⟩
  | .hbm, ⟨65, _⟩ => ⟨S16384x8, .i32⟩
  | .hbm, ⟨66, _⟩ => ⟨S16384x8, .i32⟩
  | .hbm, ⟨67, _⟩ => ⟨S16384x8x1, .i32⟩
  | .hbm, ⟨68, _⟩ => ⟨S1, .i32⟩
  | .hbm, ⟨69, _⟩ => ⟨S_, .i32⟩
  | .hbm, ⟨70, _⟩ => ⟨S16384x8x1, .i32⟩
  | .hbm, ⟨71, _⟩ => ⟨S16384x8x1, .i1⟩
  | .hbm, ⟨72, _⟩ => ⟨S1x1x1, .i32⟩
  | .hbm, ⟨73, _⟩ => ⟨S16384x8x1, .i32⟩
  | .hbm, ⟨74, _⟩ => ⟨S16384x8x1, .i1⟩
  | .hbm, ⟨75, _⟩ => ⟨S16384x8x1, .i1⟩
  | .hbm, ⟨76, _⟩ => ⟨S_, .i1⟩
  | .hbm, ⟨77, _⟩ => ⟨S16384x8, .i1⟩
  | .hbm, ⟨78, _⟩ => ⟨S16384x8, .f32⟩
  | .hbm, ⟨79, _⟩ => ⟨S_, .f32⟩
  | .hbm, ⟨80, _⟩ => ⟨S16384x8, .f32⟩
  | .hbm, ⟨81, _⟩ => ⟨S16384x8, .f32⟩
  | .hbm, ⟨82, _⟩ => ⟨S_, .f32⟩
  | .hbm, ⟨83, _⟩ => ⟨S16384, .f32⟩
  | .hbm, ⟨84, _⟩ => ⟨S16384x1, .f32⟩
  | .hbm, ⟨85, _⟩ => ⟨S_, .f32⟩
  | .hbm, ⟨86, _⟩ => ⟨S16384x1, .f32⟩
  | .hbm, ⟨87, _⟩ => ⟨S16384x1, .f32⟩
  | .hbm, ⟨88, _⟩ => ⟨S16384x8, .f32⟩
  | .hbm, ⟨89, _⟩ => ⟨S16384x8, .f32⟩
  | .hbm, ⟨90, _⟩ => ⟨S_, .f32⟩
  | .hbm, ⟨91, _⟩ => ⟨S16384x8, .f32⟩
  | .hbm, ⟨92, _⟩ => ⟨S16384x8, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_values : Ref sig .tc := ⟨.hbm, 17, rfl⟩
abbrev main_indices : Ref sig .tc := ⟨.hbm, 18, rfl⟩
abbrev main_cst_1 : Ref sig .tc := ⟨.hbm, 19, rfl⟩
abbrev main_v12 : Ref sig .tc := ⟨.hbm, 20, rfl⟩
abbrev main_values_2 : Ref sig .tc := ⟨.hbm, 21, rfl⟩
abbrev main_indices_3 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_c_5 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_6 : Ref sig .tc := ⟨.hbm, 34, rfl⟩
abbrev main_v21 : Ref sig .tc := ⟨.hbm, 35, rfl⟩
abbrev main_v22 : Ref sig .tc := ⟨.hbm, 36, rfl⟩
abbrev main_c_7 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_8 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_9 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_10 : Ref sig .tc := ⟨.hbm, 54, rfl⟩
abbrev main_call0_v0 : Ref sig .tc := ⟨.hbm, 55, rfl⟩
abbrev main_call0_v1 : Ref sig .tc := ⟨.hbm, 56, rfl⟩
abbrev main_v37 : Ref sig .tc := ⟨.hbm, 57, rfl⟩
abbrev main_values_11 : Ref sig .tc := ⟨.hbm, 58, rfl⟩
abbrev main_indices_12 : Ref sig .tc := ⟨.hbm, 59, rfl⟩
abbrev main_call1_c : Ref sig .tc := ⟨.hbm, 60, rfl⟩
abbrev main_call1_v0 : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_v5 : Ref sig .tc := ⟨.hbm, 67, rfl⟩
abbrev main_call1_c_1 : Ref sig .tc := ⟨.hbm, 68, rfl⟩
abbrev main_call1_c_2 : Ref sig .tc := ⟨.hbm, 69, rfl⟩
abbrev main_call1_v6 : Ref sig .tc := ⟨.hbm, 70, rfl⟩
abbrev main_call1_v7 : Ref sig .tc := ⟨.hbm, 71, rfl⟩
abbrev main_call1_v8 : Ref sig .tc := ⟨.hbm, 72, rfl⟩
abbrev main_call1_v9 : Ref sig .tc := ⟨.hbm, 73, rfl⟩
abbrev main_call1_v10 : Ref sig .tc := ⟨.hbm, 74, rfl⟩
abbrev main_call1_v11 : Ref sig .tc := ⟨.hbm, 75, rfl⟩
abbrev main_call1_c_3 : Ref sig .tc := ⟨.hbm, 76, rfl⟩
abbrev main_call1_v12 : Ref sig .tc := ⟨.hbm, 77, rfl⟩
abbrev main_call1_v13 : Ref sig .tc := ⟨.hbm, 78, rfl⟩
abbrev main_call1_cst : Ref sig .tc := ⟨.hbm, 79, rfl⟩
abbrev main_call1_v14 : Ref sig .tc := ⟨.hbm, 80, rfl⟩
abbrev main_v38 : Ref sig .tc := ⟨.hbm, 81, rfl⟩
abbrev main_cst_13 : Ref sig .tc := ⟨.hbm, 82, rfl⟩
abbrev main_v39 : Ref sig .tc := ⟨.hbm, 83, rfl⟩
abbrev main_v40 : Ref sig .tc := ⟨.hbm, 84, rfl⟩
abbrev main_cst_14 : Ref sig .tc := ⟨.hbm, 85, rfl⟩
abbrev main_v41 : Ref sig .tc := ⟨.hbm, 86, rfl⟩
abbrev main_v42 : Ref sig .tc := ⟨.hbm, 87, rfl⟩
abbrev main_v43 : Ref sig .tc := ⟨.hbm, 88, rfl⟩
abbrev main_v44 : Ref sig .tc := ⟨.hbm, 89, rfl⟩
abbrev main_cst_15 : Ref sig .tc := ⟨.hbm, 90, rfl⟩
abbrev main_v45 : Ref sig .tc := ⟨.hbm, 91, rfl⟩
abbrev main_v46 : Ref sig .tc := ⟨.hbm, 92, rfl⟩

abbrev nD : Nat := 1
abbrev τ : Topo := Topo.v7x

variable {F : FTy → Type} [FloatOps F]
-- ==== Proof.Rounds.lean ====
/-
  The mathematics of one token, with no kernel in it: a column `x` of `n` scores in a linear order with a least element.
  A ROUND takes the greatest score, at the least position that attains it, and overwrites that position with the least
  element. The positions that the rounds take, in order, are the first positions of the STABLE sort of the column,
  greater scores first: what a top-k with ties in index order returns.
-/
module

public import Idealize.ShloMosaic.Lib.SortPrefix

@[expose] public section

noncomputable section

namespace Cert.Router

open Idealize.ShloMosaic

variable {n : ℕ} [NeZero n] {α : Type} [LinearOrder α] [OrderBot α]

/-- The greatest score of the column. -/
def top (x : Fin n → α) : α := Finset.univ.sup x

/-- Some position holds the greatest score. -/
theorem top_attained (x : Fin n → α) : (Finset.univ.filter fun e => x e = top x).Nonempty := by
  obtain ⟨e, -, he⟩ := Finset.exists_mem_eq_sup (Finset.univ : Finset (Fin n)) ⟨0, Finset.mem_univ _⟩ x
  exact ⟨e, by simp [top, he]⟩

/-- The least position that holds the greatest score. -/
def pick (x : Fin n → α) : Fin n := (Finset.univ.filter fun e => x e = top x).min' (top_attained x)

/-- The column after a round: the taken position is overwritten with the least element. -/
def next (x : Fin n → α) : Fin n → α := fun e => if e = pick x then ⊥ else x e

/-- The column after `r` rounds. -/
def after (x : Fin n → α) : ℕ → Fin n → α
  | 0 => x
  | r + 1 => next (after x r)

/-- The position that round `r` takes, counting from 0. -/
def sel (x : Fin n → α) (r : ℕ) : Fin n := pick (after x r)

/-- The taken position holds the greatest score. -/
theorem apply_pick (x : Fin n → α) : x (pick x) = top x := by
  have := Finset.min'_mem _ (top_attained x)
  simpa [pick] using this

/-- No score exceeds the one taken. -/
theorem le_apply_pick (x : Fin n → α) (e : Fin n) : x e ≤ x (pick x) := by
  exact (Finset.le_sup (f := x) (Finset.mem_univ e)).trans (le_of_eq (apply_pick x).symm)

/-- Of the positions with the greatest score the least is taken. -/
theorem pick_le (x : Fin n → α) (e : Fin n) (h : x e = x (pick x)) : pick x ≤ e := by
  refine Finset.min'_le _ _ ?_
  simp [h, apply_pick]

/-- After `r` rounds the taken positions hold the least element, the others their scores. -/
theorem after_apply (x : Fin n → α) (r : ℕ) (e : Fin n) :
    after x r e = if ∃ j < r, sel x j = e then ⊥ else x e := by
  induction r with
  | zero => simp [after]
  | succ r ih =>
    show (if e = pick (after x r) then ⊥ else after x r e) = _
    rw [ih]
    by_cases h : e = pick (after x r)
    · rw [if_pos h, if_pos ⟨r, Nat.lt_succ_self r, h.symm⟩]
    · rw [if_neg h]
      refine if_congr ⟨fun ⟨j, hj, e'⟩ => ⟨j, by omega, e'⟩, fun ⟨j, hj, e'⟩ => ⟨j, ?_, e'⟩⟩ rfl rfl
      rcases Nat.lt_succ_iff_lt_or_eq.mp hj with h' | h'
      · exact h'
      · subst h'; exact absurd e'.symm h

/-- A position not taken in the rounds before `r` is left with its score. -/
theorem after_of_not_taken (x : Fin n → α) (r : ℕ) (e : Fin n) (h : ∀ j < r, sel x j ≠ e) : after x r e = x e := by
  rw [after_apply, if_neg]
  rintro ⟨j, hj, he⟩
  exact h j hj he

/-- Fewer than `n` rounds leave some position untaken. -/
theorem exists_not_taken (x : Fin n → α) (r : ℕ) (hr : r < n) : ∃ e, ∀ j < r, sel x j ≠ e := by
  by_contra hc
  push Not at hc
  have hsub : (Finset.univ : Finset (Fin n)) ⊆ (Finset.range r).image (sel x) := fun e _ => by
    obtain ⟨j, hj, he⟩ := hc e
    exact Finset.mem_image.mpr ⟨j, Finset.mem_range.mpr hj, he⟩
  have hcard := (Finset.card_le_card hsub).trans Finset.card_image_le
  rw [Finset.card_univ, Fintype.card_fin, Finset.card_range] at hcard
  omega

variable (x : Fin n → α) (hx : ∀ e, ⊥ < x e)
include hx

/-- Where every score exceeds the least element, a round takes a position that no round before it took. -/
theorem sel_not_taken (r : ℕ) (hr : r < n) : ∀ j < r, sel x j ≠ sel x r := by
  intro j hj he
  obtain ⟨e, h⟩ := exists_not_taken x r hr
  have h1 : after x r (sel x r) = ⊥ := by rw [after_apply, if_pos ⟨j, hj, he⟩]
  have h2 : after x r e ≤ after x r (sel x r) := le_apply_pick (after x r) e
  rw [h1, after_of_not_taken x r e h] at h2
  exact absurd (hx e) (not_lt.mpr h2)

/-- The greatest value left before round `r` is the score at the position that round takes. -/
theorem top_after (r : ℕ) (hr : r < n) : top (after x r) = x (sel x r) := by
  rw [← apply_pick (after x r)]
  exact after_of_not_taken x r _ (sel_not_taken x hx r hr)

/-- An untaken position's score does not exceed that of the position round `r` takes, and if they are equal it comes
    no earlier. -/
theorem sel_first (r : ℕ) (hr : r < n) (e : Fin n) (h : ∀ j < r, sel x j ≠ e) :
    x e ≤ x (sel x r) ∧ (x e = x (sel x r) → sel x r ≤ e) := by
  have h1 := after_of_not_taken x r e h
  have h2 := after_of_not_taken x r _ (sel_not_taken x hx r hr)
  have h3 : after x r (pick (after x r)) = x (sel x r) := h2
  refine ⟨?_, fun he => ?_⟩
  · have := le_apply_pick (after x r) e
    rwa [h1, h3] at this
  · exact pick_le (after x r) e (by rw [h1, h3, he])

omit hx [OrderBot α] [NeZero n] in
/-- A stable sort of the positions by score alone is the sort by score and then position. -/
theorem stableSort_eq_keyed (l : List (Fin n)) (hl : l.Pairwise (· < ·)) :
    stableSort (fun a b => decide (x b < x a)) l
      = stableSort (fun a b => decide (x b < x a) || (decide (x a = x b) && decide (a < b))) l := by
  induction l with
  | nil => rfl
  | cons a l ih =>
    rw [List.pairwise_cons] at hl
    unfold stableSort
    rw [ih hl.2]
    refine insertBefore_congr _ _ a _ fun b hb => ?_
    have hb' : a < b := hl.1 b ((perm_stableSort _ l).mem_iff.mp hb)
    have : decide (b < a) = false := by simpa using le_of_lt hb'
    simp [this]

/-- THE ROUNDS ARE THE SORT: for `r < n`, the `r`-th position of the stable sort, greater scores first, is the position
    that round `r` takes. -/
theorem sortedFrom_eq_sel (r : Fin n) :
    sortedFrom (fun a b => decide (x b < x a)) r = sel x r := by
  have hk : sortedFrom (fun a b => decide (x b < x a)) r
      = sortedFrom (fun a b => decide (x b < x a) || (decide (x a = x b) && decide (a < b))) r := by
    unfold sortedFrom
    have e : sortPositions n (fun a b => decide (x b < x a))
        = sortPositions n (fun a b => decide (x b < x a) || (decide (x a = x b) && decide (a < b))) :=
      stableSort_eq_keyed x _ (List.pairwise_lt_finRange n)
    rw [List.get_of_eq e]
    rfl
  rw [hk]
  have hB := StrictTotalBefore.of_key_then_position (n := n) (fun a b : α => decide (b < a)) x
    (fun a => by simp) (fun a b c h h' => by simp only [decide_eq_true_eq] at *; exact h'.trans h)
    (fun a b => by rcases lt_trichotomy a b with h | h | h <;> simp [h])
  have key : ∀ (i : Fin n) (p : Fin n), (∀ j < i.val, sel x j ≠ p) →
      (decide (x (sel x i) < x p) || (decide (x p = x (sel x i)) && decide (p < sel x i))) = false := by
    intro i p hp
    obtain ⟨h1, h2⟩ := sel_first x hx i i.isLt p hp
    rw [Bool.or_eq_false_iff, Bool.and_eq_false_iff]
    refine ⟨by simpa using h1, ?_⟩
    by_cases he : x p = x (sel x i)
    · right; simpa using h2 he
    · left; simpa using he
  refine hB.sortedFrom_eq_of_prefix (k := n) le_rfl (fun i : Fin n => sel x i) ?_ ?_ ?_ r
  · intro i j hij
    rcases lt_trichotomy i j with h | h | h
    · exact absurd hij (sel_not_taken x hx j j.isLt i h)
    · exact h
    · exact absurd hij.symm (sel_not_taken x hx i i.isLt j h)
  · exact fun i j hij => key i _ fun k hk => sel_not_taken x hx j j.isLt k (hk.trans hij)
  · exact fun i p hp => key i p fun j hj => hp ⟨j, hj.trans i.isLt⟩

end Cert.Router

end
-- ==== Proof.Words.lean ====
/-
  Small facts about words and constants: the least of finitely many words by the signed minimum, the words of positions
  below 128, what the printed float constants denote, and a score's range.
-/
module

public import Idealize.ShloMosaic.PureOps
public import Idealize.ShloMosaic.Lib.IdealHost
public import Idealize.ShloMosaic.Lib.ValueIdx

@[expose] public section

noncomputable section

namespace Cert.Router

open Idealize.ShloMosaic

/-- A position below 128 as a word reads back, signed, as itself. -/
theorem toInt_word (e : ℕ) (he : e ≤ 128) : (BitVec.ofNat 32 e).toInt = e := by
  rw [BitVec.toInt_eq_toNat_cond, BitVec.toNat_ofNat]
  rw [Nat.mod_eq_of_lt (by omega)]
  omega

/-- Positions below 128 with equal words are equal. -/
theorem word_inj (a b : Fin 128) (h : BitVec.ofNat 32 a.val = BitVec.ofNat 32 b.val) : a = b := by
  have := congrArg BitVec.toNat h
  simp only [BitVec.toNat_ofNat] at this
  apply Fin.ext
  omega

/-- The signed minimum of two words reads as the lesser integer. -/
theorem toInt_minsi (a b : BitVec 32) : (IntOp.minsi a b).toInt = min a.toInt b.toInt := by
  unfold IntOp.minsi
  by_cases h : a.slt b = true
  · rw [if_pos h]; rw [BitVec.slt_iff_toInt_lt] at h; omega
  · rw [if_neg h]; rw [BitVec.slt_iff_toInt_lt] at h; omega

/-- The signed minimum of a family of words is the word `w` that the family holds and that none is below. -/
theorem fold_minsi {n : ℕ} (f : Fin n → BitVec 32) (i w : BitVec 32) (e : Fin n) (he : f e = w)
    (hle : ∀ e, w.toInt ≤ (f e).toInt) (hi : w.toInt ≤ i.toInt) :
    (Finset.univ : Finset (Fin n)).fold IntOp.minsi i f = w := by
  apply BitVec.eq_of_toInt_eq
  have h : ((Finset.univ : Finset (Fin n)).fold IntOp.minsi i f).toInt
      = (Finset.univ : Finset (Fin n)).fold min i.toInt (fun e => (f e).toInt) :=
    (Finset.fold_hom (op := IntOp.minsi) (op' := min) (m := BitVec.toInt) toInt_minsi).symm
  rw [h]
  apply le_antisymm
  · exact Finset.fold_min_le _ |>.mpr (Or.inr ⟨e, Finset.mem_univ _, by rw [he]⟩)
  · exact Finset.le_fold_min _ |>.mpr ⟨hi, fun e _ => hle e⟩

/-- The kernel's negative infinity is the least extended real. -/
theorem ofBits_negInf : Ideal.ofBits .f32 0xFF800000#32 = ⊥ := by simp [Ideal.ofBits, Ideal.ieee]

/-- The precondition's infinity is the greatest extended real. -/
theorem ofBits_inf : Ideal.ofBits .f32 0x7F800000#32 = ⊤ := by simp [Ideal.ofBits, Ideal.ieee]

/-- The constant added to the sum of the weights, 1e-20 as binary32, is a positive real. -/
theorem ofBits_eps : ∃ r : ℝ, 0 < r ∧ Ideal.ofBits .f32 0x1E3CE508#32 = (r : EReal) := by
  refine ⟨_, ?_, by simp [Ideal.ofBits, Ideal.ieee]; rfl⟩
  positivity

/-- The logistic function takes every extended real to a real between 0 and 1. -/
theorem logistic_real (x : EReal) : ∃ r : ℝ, 0 ≤ r ∧ Ideal.logistic x = (r : EReal) := by
  induction x with
  | bot => exact ⟨0, le_rfl, by simp⟩
  | top => exact ⟨1, zero_le_one, by simp⟩
  | coe x => exact ⟨_, by positivity, Ideal.logistic_coe x⟩

/-- A logistic value exceeds the least extended real. -/
theorem bot_lt_logistic (x : EReal) : ⊥ < Ideal.logistic x := by
  obtain ⟨r, -, h⟩ := logistic_real x
  rw [h]; exact EReal.bot_lt_coe r

end Cert.Router

end
-- ==== Proof.VecRound.lean ====
/-
  One round on a whole block. The kernel holds a [128, 1024] block, experts down and tokens across, and a round is three
  vector operations: the maximum of each column, the least row where the column equals it, and the column with that row
  overwritten. Read at a token, each is the round of Rounds.lean on that token's column.
-/
module

public import proofs.«01_k».proof.Proof.Gen.KernelIdeal.Skeleton
public import proofs.«01_k».proof.Proof.Rounds
public import proofs.«01_k».proof.Proof.Words
public import Idealize.ShloMosaic.Lib.ValueIdx
public import Idealize.ShloMosaic.Lib.ValueLayout
public import Idealize.ShloMosaic.Lib.Pipeline.Value

@[expose] public section

noncomputable section

namespace Cert.Router

open Idealize.ShloMosaic Idealize.ShloMosaic.ValueIdx Cert.KernelIdeal

/-- The numbers of the experts, down the block. -/
abbrev rows : IVec S128x1024 32 := iota .tc S128x1024 32 [0] Facts₀.iota_S128x1024_d0_w32

/-- The maximum of each column, as one row. -/
def vmax (X : FVec Ideal S128x1024 .f32) : FVec Ideal S1x1024 .f32 :=
  shapeCast S1x1024 (multiReduction .maximumf [0] S1024 X 0xFF800000#32 Facts₀.reduces_S128x1024_S1024 (.inl rfl) rfl)
    Facts₀.shapeCasts_S1024_S1x1024

/-- The least row of each column that holds the column's maximum, as one row. -/
def vidx (X : FVec Ideal S128x1024 .f32) : IVec S1x1024 32 :=
  shapeCast S1x1024 (multiReductionI .minsi [0] S1024
    (select (cmpf .oeq X (broadcastTo S128x1024 (vmax X) Facts₀.broadcasts_S1x1024_S128x1024)) rows (broadcast S128x1024 128#32))
    2147483647#32 Facts₀.reduces_S128x1024_S1024 rfl) Facts₀.shapeCasts_S1024_S1x1024

/-- The block with each column's taken row overwritten by negative infinity. -/
def vnext (X : FVec Ideal S128x1024 .f32) : FVec Ideal S128x1024 .f32 :=
  select (cmpi .eq rows (broadcastTo S128x1024 (vidx X) Facts₀.broadcasts_S1x1024_S128x1024))
    (broadcast S128x1024 (Scalar.ofBits .f32 0xFF800000#32)) X

/-- Token `t`'s column of a block. -/
def col (X : FVec Ideal S128x1024 .f32) (t : Fin 1024) : Fin 128 → EReal := fun e => X (ix2 e t)

/-- A column's entry is the block's. -/
theorem col_apply (X : FVec Ideal S128x1024 .f32) (t : Fin 1024) (e : Fin 128) : col X t e = X (ix2 e t) := rfl

/-- A column's index with the reduced row put back. -/
theorem lift_col (h : S128x1024.Reduces [0] S1024) (t : Fin 1024) (e : Fin 128) : h.lift (ix1 t) e = ix2 e t := by
  funext c
  match c with
  | ⟨0, _⟩ => rfl
  | ⟨1, _⟩ => rfl

/-- A comparison of words at an index. -/
theorem cmpi_ix {s : Shape} {w : ℕ} (p : CmpIPredicate) (a b : IVec s w) (i : s.Idx) : cmpi p a b i = IntOp.cmpi p (a i) (b i) := rfl

/-- An expert's number at an index. -/
theorem rows_apply (e : Fin 128) (t : Fin 1024) : rows (ix2 e t) = BitVec.ofNat 32 e.val := iota_single_apply _ _ _ _ _ _

/-- The column maximum at a token is the greatest score of its column. -/
theorem vmax_apply (X : FVec Ideal S128x1024 .f32) (u : Fin 1) (t : Fin 1024) : vmax X (ix2 u t) = top (col X t) := by
  unfold vmax
  rw [shapeCast_a_1a_apply]
  refine (Ideal.multiReduction_maximumf_single X 0xFF800000#32 _ (.inl rfl) rfl (ix1 t)).trans ?_
  have hb : (FloatOps.ofBits .f32 0xFF800000#32 : Ideal .f32) = (⊥ : EReal) := ofBits_negInf
  rw [hb]
  exact Finset.fold_congr fun e _ => congrArg X (lift_col _ t e)

/-- The taken row at a token, as a word. -/
theorem vidx_apply (X : FVec Ideal S128x1024 .f32) (u : Fin 1) (t : Fin 1024) :
    vidx X (ix2 u t) = BitVec.ofNat 32 (pick (col X t)).val := by
  unfold vidx
  rw [shapeCast_a_1a_apply]
  refine (multiReductionI_eq_fold .minsi _ _ _ rfl (ix1 t)).trans ((Shape.Reduces.fold_filter_drop_single _ _ _ _ _).trans ?_)
  have hf : ∀ e : Fin 128, select (cmpf .oeq X (broadcastTo S128x1024 (vmax X) Facts₀.broadcasts_S1x1024_S128x1024)) rows
      (broadcast S128x1024 128#32) (ix2 e t) = if col X t e = top (col X t) then BitVec.ofNat 32 e.val else 128#32 := by
    intro e
    rw [select_apply, cmpf_apply, broadcastTo_1b_ab_apply, vmax_apply, rows_apply, broadcast_apply, Ideal.cmpf_def]
    by_cases h : col X t e = top (col X t)
    · rw [if_pos h, show X (ix2 e t) = top (col X t) from h]
      simp [Ideal.cmp, Scalar.select]
    · rw [if_neg h, show Ideal.cmp .oeq (X (ix2 e t)) (top (col X t)) = 0#1 by
        have h' : ¬ X (ix2 e t) = top (col X t) := h
        simp only [Ideal.cmp]; rw [decide_eq_false h']; rfl]
      rfl
  refine (Finset.fold_congr (g := fun e : Fin 128 => if col X t e = top (col X t) then BitVec.ofNat 32 e.val else 128#32)
    fun e _ => (congrArg _ (lift_col _ t e)).trans (hf e)).trans ?_
  have hp : (pick (col X t)).val < 128 := (pick (col X t)).isLt
  refine fold_minsi _ _ _ (pick (col X t)) (by rw [if_pos (apply_pick _)]) (fun e => ?_) ?_
  · rw [toInt_word _ hp.le]
    by_cases h : col X t e = top (col X t)
    · rw [if_pos h, toInt_word _ e.isLt.le]
      have := pick_le (col X t) e (h.trans (apply_pick _).symm)
      exact_mod_cast this
    · rw [if_neg h]
      show ((pick (col X t)).val : ℤ) ≤ 128
      omega
  · rw [toInt_word _ hp.le]
    show ((pick (col X t)).val : ℤ) ≤ 2147483647
    omega

/-- The overwritten block at an index. -/
theorem vnext_apply (X : FVec Ideal S128x1024 .f32) (i : S128x1024.Idx) :
    vnext X i = Scalar.select
      (IntOp.cmpi .eq (rows i) (broadcastTo S128x1024 (vidx X) Facts₀.broadcasts_S1x1024_S128x1024 i))
      (Scalar.ofBits (F := Ideal) .f32 0xFF800000#32) (X i) := rfl

/-- The overwritten block, column by column, is the column after a round. -/
theorem vnext_col (X : FVec Ideal S128x1024 .f32) (t : Fin 1024) : col (vnext X) t = next (col X t) := by
  funext e
  have h0 : col (vnext X) t e = Scalar.select (IntOp.cmpi .eq (BitVec.ofNat 32 e.val) (BitVec.ofNat 32 (pick (col X t)).val))
      (Scalar.ofBits (F := Ideal) .f32 0xFF800000#32) (col X t e) := by
    rw [col_apply, vnext_apply, broadcastTo_1b_ab_apply, vidx_apply, rows_apply]
    rfl
  rw [h0]
  unfold next
  by_cases h : e = pick (col X t)
  · rw [if_pos h, ← h, (IntOp.cmpi_eq).mpr rfl, select_one]
    exact ofBits_negInf
  · rw [if_neg h, eq_zero_of_ne_one (fun hc => h (word_inj _ _ ((IntOp.cmpi_eq).mp hc))), select_zero]

/-- The block after `r` rounds. -/
def vafter (X : FVec Ideal S128x1024 .f32) : ℕ → FVec Ideal S128x1024 .f32
  | 0 => X
  | r + 1 => vnext (vafter X r)

/-- The block after `r` rounds, column by column. -/
theorem vafter_col (X : FVec Ideal S128x1024 .f32) (r : ℕ) (t : Fin 1024) : col (vafter X r) t = after (col X t) r := by
  induction r with
  | zero => rfl
  | succ r ih => show col (vnext (vafter X r)) t = next (after (col X t) r); rw [vnext_col, ih]

/-- The row that round `r` takes at a token. -/
theorem vidx_vafter (X : FVec Ideal S128x1024 .f32) (r : ℕ) (u : Fin 1) (t : Fin 1024) :
    vidx (vafter X r) (ix2 u t) = BitVec.ofNat 32 (sel (col X t) r).val := by
  rw [vidx_apply, vafter_col]; rfl

/-- The maximum that round `r` finds at a token is the score at the row it takes. -/
theorem vmax_vafter (X : FVec Ideal S128x1024 .f32) (r : ℕ) (hr : r < 128) (u : Fin 1) (t : Fin 1024)
    (hX : ∀ e, ⊥ < col X t e) : vmax (vafter X r) (ix2 u t) = col X t (sel (col X t) r) := by
  rw [vmax_apply, vafter_col, top_after _ hX r hr]

end Cert.Router

end
-- ==== Proof.Block.lean ====
/-
  What one block of the kernel computes. The block's printed payloads are eight rounds of VecRound.lean on the block of
  scores; the two output blocks stack the eight taken rows and the eight quotients. Read at a round and a token they are
  the taken expert's number and its score over the sum of the eight taken scores.
-/
module

public import proofs.«01_k».proof.Proof.Gen.KernelIdeal.Frame
public import proofs.«01_k».proof.Proof.VecRound
public import Idealize.ShloMosaic.Lib.MatmulPlain
public import Idealize.ShloMosaic.Lib.IdealHost

@[expose] public section

noncomputable section

namespace Cert.Router

open Idealize.ShloMosaic Idealize.ShloMosaic.ValueIdx Cert.KernelIdeal Cert.KernelIdeal.Gen

/-- The word of 1e-20, the constant that the sum of the taken scores is increased by. -/
abbrev eps : EReal := Ideal.ofBits .f32 0x1E3CE508#32

/-- The sum of the eight taken scores plus the constant. -/
def total (s : Fin 128 → EReal) : EReal := (∑ k : Fin 8, s (sel s k.val)) + eps

/-- A row stacked in a block of eight rows, read at a round and a token. -/
theorem stack_apply {α : Type} (f : Fin 8 → (S1x1024.Idx → α))
    (h : Shape.Concatenates (([⟨S1x1024, f 0⟩, ⟨S1x1024, f 1⟩, ⟨S1x1024, f 2⟩, ⟨S1x1024, f 3⟩, ⟨S1x1024, f 4⟩, ⟨S1x1024, f 5⟩,
      ⟨S1x1024, f 6⟩, ⟨S1x1024, f 7⟩] : List ((s : Shape) × (s.Idx → α))).map (·.1)) S8x1024 0) (r : Fin 8) (t : Fin 1024) :
    concatenate S8x1024 0 [⟨S1x1024, f 0⟩, ⟨S1x1024, f 1⟩, ⟨S1x1024, f 2⟩, ⟨S1x1024, f 3⟩, ⟨S1x1024, f 4⟩, ⟨S1x1024, f 5⟩,
      ⟨S1x1024, f 6⟩, ⟨S1x1024, f 7⟩] h (ix2 r t) = f r (ix2 0 t) := by
  refine concatenate_ofFn_unit_apply (t := S8x1024) (s₁ := S1x1024) 0 f h rfl rfl (ix2 r t) r rfl (ix2 0 t) fun b hb => ?_
  match b with
  | ⟨0, _⟩ => exact absurd rfl hb
  | ⟨1, _⟩ => rfl

/-- The eight rows of taken experts. -/
def blockIdx (X : FVec Ideal S128x1024 .f32) : IVec S8x1024 32 :=
  concatenate S8x1024 0 [⟨S1x1024, vidx (vafter X 0)⟩, ⟨S1x1024, vidx (vafter X 1)⟩, ⟨S1x1024, vidx (vafter X 2)⟩,
    ⟨S1x1024, vidx (vafter X 3)⟩, ⟨S1x1024, vidx (vafter X 4)⟩, ⟨S1x1024, vidx (vafter X 5)⟩, ⟨S1x1024, vidx (vafter X 6)⟩,
    ⟨S1x1024, vidx (vafter X 7)⟩]
    Facts₀.concatenates_S1x1024_S1x1024_S1x1024_S1x1024_S1x1024_S1x1024_S1x1024_S1x1024_S8x1024_d0

/-- The eight rows of taken scores. -/
def blockMax (X : FVec Ideal S128x1024 .f32) : FVec Ideal S8x1024 .f32 :=
  concatenate S8x1024 0 [⟨S1x1024, vmax (vafter X 0)⟩, ⟨S1x1024, vmax (vafter X 1)⟩, ⟨S1x1024, vmax (vafter X 2)⟩,
    ⟨S1x1024, vmax (vafter X 3)⟩, ⟨S1x1024, vmax (vafter X 4)⟩, ⟨S1x1024, vmax (vafter X 5)⟩, ⟨S1x1024, vmax (vafter X 6)⟩,
    ⟨S1x1024, vmax (vafter X 7)⟩]
    Facts₀.concatenates_S1x1024_S1x1024_S1x1024_S1x1024_S1x1024_S1x1024_S1x1024_S1x1024_S8x1024_d0

/-- The sums of the eight taken scores, as one row. -/
def blockSum (M : FVec Ideal S8x1024 .f32) : FVec Ideal S1x1024 .f32 :=
  shapeCast S1x1024 (multiReduction .add [0] S1024 M 0x00000000#32 Facts₀.reduces_S8x1024_S1024 (.inl rfl) rfl)
    Facts₀.shapeCasts_S1024_S1x1024

/-- The eight rows of scores, each over its column's sum. -/
def blockWts (M : FVec Ideal S8x1024 .f32) : FVec Ideal S8x1024 .f32 :=
  mulf M (broadcastTo S8x1024
    (divf (broadcast S1x1024 (Scalar.ofBits (F := Ideal) .f32 0x3F800000#32))
      (addf (blockSum M) (broadcast S1x1024 (Scalar.ofBits (F := Ideal) .f32 0x1E3CE508#32))))
    Facts₀.broadcasts_S1x1024_S8x1024)

/-- The stacked experts at a round and a token. -/
theorem blockIdx_apply (X : FVec Ideal S128x1024 .f32) (r : Fin 8) (t : Fin 1024) :
    blockIdx X (ix2 r t) = BitVec.ofNat 32 (sel (col X t) r.val).val :=
  (stack_apply (fun r : Fin 8 => vidx (vafter X r.val)) _ r t).trans (vidx_vafter X r.val 0 t)

/-- The stacked scores at a round and a token. -/
theorem blockMax_apply (X : FVec Ideal S128x1024 .f32) (r : Fin 8) (t : Fin 1024) (hX : ∀ e, ⊥ < col X t e) :
    blockMax X (ix2 r t) = col X t (sel (col X t) r.val) :=
  (stack_apply (fun r : Fin 8 => vmax (vafter X r.val)) _ r t).trans (vmax_vafter X r.val (by omega) 0 t hX)

/-- A column's index of the stacked rows with the reduced row put back. -/
theorem lift_row (h : S8x1024.Reduces [0] S1024) (t : Fin 1024) (r : Fin 8) : h.lift (ix1 t) r = ix2 r t := by
  funext c
  match c with
  | ⟨0, _⟩ => rfl
  | ⟨1, _⟩ => rfl

/-- The row of sums at a token. -/
theorem blockSum_apply (M : FVec Ideal S8x1024 .f32) (u : Fin 1) (t : Fin 1024) :
    blockSum M (ix2 u t) = ∑ r : Fin 8, M (ix2 r t) := by
  unfold blockSum
  rw [shapeCast_a_1a_apply]
  refine (Ideal.multiReduction_add_single M 0x00000000#32 _ (.inl rfl) rfl (ix1 t)).trans ?_
  exact Finset.sum_congr rfl fun r _ => congrArg M (lift_row _ t r)

/-- The stacked quotients at a round and a token. -/
theorem blockWts_apply (M : FVec Ideal S8x1024 .f32) (r : Fin 8) (t : Fin 1024) :
    blockWts M (ix2 r t) = M (ix2 r t) * Ideal.div 1 ((∑ k : Fin 8, M (ix2 k t)) + eps) := by
  unfold blockWts
  rw [mulf_apply, broadcastTo_1b_ab_apply, divf_apply, addf_apply, blockSum_apply, broadcast_apply, broadcast_apply]
  rw [show (Scalar.ofBits (F := Ideal) .f32 0x3F800000#32 : EReal) = 1 from Ideal.ofBits_one_f32]
  rfl

/-- The block of scores: the product of the block of tokens with the router's rows, through the logistic function. -/
abbrev scores (x0 : Vec Ideal S1024x4096 .f32) (x1 : Vec Ideal S128x4096 .f32) : FVec Ideal S128x1024 .f32 := k0_pay5 x0 x1

/-- The score of an expert at a token of the block. -/
theorem scores_apply (x0 : Vec Ideal S1024x4096 .f32) (x1 : Vec Ideal S128x4096 .f32) (e : Fin 128) (t : Fin 1024) :
    scores x0 x1 (ix2 e t) = Ideal.logistic (∑ k : Fin 4096, x0 (ix2 t k) * x1 (ix2 e k)) := by
  unfold scores k0_pay5
  rw [transpose_ix2_apply]
  refine congrArg Ideal.logistic ?_
  refine (Ideal.matmul_transposedRhs_apply none x0 x1 _ t e).trans ?_
  rw [show (constant (F := Ideal) S1024x128 .f32 0x00000000#32 (ix2 t e) : EReal) = 0 from Ideal.ofBits_zero_f32, zero_add]

/-- The block after each of the first three rounds, as printed. -/
theorem pay14_eq (x0 : Vec Ideal S1024x4096 .f32) (x1 : Vec Ideal S128x4096 .f32) :
    k0_pay14 x0 x1 = vafter (scores x0 x1) 3 := rfl

/-- The block after six rounds, as printed from the block after three. -/
theorem pay23_eq (X : FVec Ideal S128x1024 .f32) : k0_pay23 rows (vafter X 3) = vafter X 6 := rfl

/-- The block after seven rounds, as printed from the block after six. -/
theorem pay1_eq (X : FVec Ideal S128x1024 .f32) : k0_pay1 rows (vafter X 6) (k0_pay26 rows (vafter X 3)) = vafter X 7 := rfl

/-- The first output block is the stacked experts. -/
theorem out2_eq (x0 : Vec Ideal S1024x4096 .f32) (x1 : Vec Ideal S128x4096 .f32) : out0_2 x0 x1 = blockIdx (scores x0 x1) := by
  unfold_out out0_2
  rw [View.canon_unit_zero (by decide), View.ld_unit_zero (by decide), View.ld_unit_zero (by decide)]
  rfl

/-- The second output block is the stacked quotients. -/
theorem out3_eq (x0 : Vec Ideal S1024x4096 .f32) (x1 : Vec Ideal S128x4096 .f32) :
    out0_3 x0 x1 = blockWts (blockMax (scores x0 x1)) := by
  unfold_out out0_3
  rw [View.canon_unit_zero (by decide), View.ld_unit_zero (by decide), View.ld_unit_zero (by decide)]
  rfl

/-- The scores of one token: each expert's row times the token, through the logistic function. -/
def score (x : Fin 4096 → EReal) (w : Fin 128 → Fin 4096 → EReal) : Fin 128 → EReal :=
  fun e => Ideal.logistic (∑ k : Fin 4096, x k * w e k)

/-- Every score exceeds the least extended real. -/
theorem bot_lt_score (x : Fin 4096 → EReal) (w : Fin 128 → Fin 4096 → EReal) (e : Fin 128) : ⊥ < score x w e :=
  bot_lt_logistic _

/-- A token's column of the block of scores. -/
theorem col_scores (x0 : Vec Ideal S1024x4096 .f32) (x1 : Vec Ideal S128x4096 .f32) (t : Fin 1024) :
    col (scores x0 x1) t = score (fun k => x0 (ix2 t k)) (fun e k => x1 (ix2 e k)) := by
  funext e
  exact scores_apply x0 x1 e t

/-- The first output block at a round and a token: the number of the expert taken in that round. -/
theorem out2_apply (x0 : Vec Ideal S1024x4096 .f32) (x1 : Vec Ideal S128x4096 .f32) (r : Fin 8) (t : Fin 1024) :
    out0_2 x0 x1 (ix2 r t) = BitVec.ofNat 32 (sel (score (fun k => x0 (ix2 t k)) (fun e k => x1 (ix2 e k))) r.val).val := by
  rw [out2_eq, blockIdx_apply, col_scores]

/-- The second output block at a round and a token: the taken expert's score times the reciprocal of the total. -/
theorem out3_apply (x0 : Vec Ideal S1024x4096 .f32) (x1 : Vec Ideal S128x4096 .f32) (r : Fin 8) (t : Fin 1024) :
    out0_3 x0 x1 (ix2 r t)
      = score (fun k => x0 (ix2 t k)) (fun e k => x1 (ix2 e k))
          (sel (score (fun k => x0 (ix2 t k)) (fun e k => x1 (ix2 e k))) r.val)
        * Ideal.div 1 (total (score (fun k => x0 (ix2 t k)) (fun e k => x1 (ix2 e k)))) := by
  have hX : ∀ e, ⊥ < col (scores x0 x1) t e := fun e => by rw [col_scores]; exact bot_lt_score _ _ e
  rw [out3_eq, blockWts_apply, blockMax_apply _ _ _ hX,
    Finset.sum_congr rfl fun k _ => blockMax_apply (scores x0 x1) k t hX, col_scores]
  rfl

end Cert.Router

end
-- ==== Proof.KernelValue.lean ====
/-
  What the kernel's two results hold. Each output block of Block.lean is written back once, the sixteen blocks tile the
  [8, 16384] arrays, and the two host transposes after the grid turn them to [16384, 8]. So each result, at a token and a
  round, is a function of that token's row and of the router's rows.
-/
module

public import proofs.«01_k».proof.Proof.Block
public import Idealize.ShloMosaic.Lib.Pipeline.ValueKit.Geometry
public import Idealize.ShloMosaic.Lib.StableHlo.Run

@[expose] public section

noncomputable section

namespace Cert.Router

open Idealize.ShloMosaic Idealize.ShloMosaic.ValueIdx Idealize.ShloMosaic.TcCoe Cert.KernelIdeal Cert.KernelIdeal.Gen
open Idealize.SL Idealize.SL.Sem

/-- The scores of token `t`. -/
def tokenScore (x : FVec Ideal S16384x4096 .f32) (w : FVec Ideal S128x4096 .f32) (t : Fin 16384) : Fin 128 → EReal :=
  score (fun k => x (ix2 t k)) (fun e k => w (ix2 e k))

/-- The number of the expert that token `t` takes in round `r`. -/
def takenAt (x : FVec Ideal S16384x4096 .f32) (w : FVec Ideal S128x4096 .f32) (t : Fin 16384) (r : Fin 8) : BitVec 32 :=
  BitVec.ofNat 32 (sel (tokenScore x w t) r.val).val

/-- The weight that token `t` gives the expert of round `r`, as the kernel computes it. -/
def weightAt (x : FVec Ideal S16384x4096 .f32) (w : FVec Ideal S128x4096 .f32) (t : Fin 16384) (r : Fin 8) : EReal :=
  tokenScore x w t (sel (tokenScore x w t) r.val) * Ideal.div 1 (total (tokenScore x w t))

/-- The taken experts, rounds down and tokens across. -/
def takenT (x : FVec Ideal S16384x4096 .f32) (w : FVec Ideal S128x4096 .f32) : IVec S8x16384 32 :=
  fun i => takenAt x w (i 1) (i 0)

/-- The weights, rounds down and tokens across. -/
def weightT (x : FVec Ideal S16384x4096 .f32) (w : FVec Ideal S128x4096 .f32) : FVec Ideal S8x16384 .f32 :=
  fun i => weightAt x w (i 1) (i 0)

/-- The taken experts, tokens down and rounds across: the first result. -/
def taken (x : FVec Ideal S16384x4096 .f32) (w : FVec Ideal S128x4096 .f32) : IVec S16384x8 32 :=
  fun i => takenAt x w (i 0) (i 1)

/-- The weights, tokens down and rounds across: the second result. -/
def weight (x : FVec Ideal S16384x4096 .f32) (w : FVec Ideal S128x4096 .f32) : FVec Ideal S16384x8 .f32 :=
  fun i => weightAt x w (i 0) (i 1)

variable (m : (ℓ : Loc nD τ sig) → Buf (Elt Ideal) ℓ) (c : Dev nD)

/-- The block of each window at a grid point: tokens move, the router's rows stay. -/
theorem blocks : ∀ t : Fin cfg0.N, win0_0.index t = ![t.val, 0] ∧ win0_1.index t = ![0, 0] ∧ win0_2.index t = ![0, t.val]
    ∧ win0_3.index t = ![0, t.val] ∧ t.val < 16 :=
  (by decide +kernel : ∀ t : Fin grid0.N, _)

/-- The token that position `q` of block `t` is. -/
def tokenOf (t : Fin cfg0.N) (q : Fin 1024) : Fin 16384 := ⟨t.val * 1024 + q.val, by have := (blocks t).2.2.2.2; omega⟩

/-- A block of tokens reads the token array at the block's tokens. -/
theorem iblk0_apply (t : Fin cfg0.N) (q : Fin 1024) (k : Fin 4096) :
    iblk m c 0 t (ix2 q k) = m ((c : Thread nD τ).loc main_arg0) (ix2 (tokenOf t q) k) := by
  unfold tokenOf
  blk_ext [iblk, V, blocks t]

/-- The router's block is the router's array. -/
theorem iblk1_apply (t : Fin cfg0.N) (e : Fin 128) (k : Fin 4096) :
    iblk m c 1 t (ix2 e k) = m ((c : Thread nD τ).loc main_arg1) (ix2 e k) := by
  blk_ext [iblk, V, blocks t]

/-- A token's scores in its block are its scores. -/
theorem blockScore (t : Fin cfg0.N) (q : Fin 1024) :
    score (fun k => iblk m c 0 t (ix2 q k)) (fun e k => iblk m c 1 t (ix2 e k))
      = tokenScore (m ((c : Thread nD τ).loc main_arg0)) (m ((c : Thread nD τ).loc main_arg1)) (tokenOf t q) := by
  unfold tokenScore
  rw [funext fun k => iblk0_apply m c t q k, funext fun e => funext fun k => iblk1_apply m c t e k]

/-- Where the first output's block lies in its array. -/
theorem emb2 (t : Fin cfg0.N) (r : Fin 8) (q : Fin 1024) : (win0_2.blk t).view.emb (ix2 r q) = ix2 r (tokenOf t q) := by
  unfold tokenOf
  blk_ext [blocks t]

/-- Where the second output's block lies in its array. -/
theorem emb3 (t : Fin cfg0.N) (r : Fin 8) (q : Fin 1024) : (win0_3.blk t).view.emb (ix2 r q) = ix2 r (tokenOf t q) := by
  unfold tokenOf
  blk_ext [blocks t]

/-- The first array after the grid. -/
theorem array2 : (dats m 0 c).arrAt 2 cfg0.N
    = takenT (m ((c : Thread nD τ).loc main_arg0)) (m ((c : Thread nD τ).loc main_arg1)) := by
  refine (dats m 0 c).arrAt_eq_of_covers 2 _ (by decide +kernel) fun t hf y => ?_
  blk_simp
  rw [after0_2]
  obtain ⟨r, q, rfl⟩ : ∃ (r : Fin 8) (q : Fin 1024), y = ix2 r q := ⟨y 0, y 1, eq_ix2 y⟩
  refine (out2_apply (iblk m c 0 t) (iblk m c 1 t) r q).trans ?_
  rw [blockScore]
  exact (congrArg (takenT (m ((c : Thread nD τ).loc main_arg0)) (m ((c : Thread nD τ).loc main_arg1))) (emb2 t r q)).symm

/-- The second array after the grid. -/
theorem array3 : (dats m 0 c).arrAt 3 cfg0.N
    = weightT (m ((c : Thread nD τ).loc main_arg0)) (m ((c : Thread nD τ).loc main_arg1)) := by
  refine (dats m 0 c).arrAt_eq_of_covers 3 _ (by decide +kernel) fun t hf y => ?_
  blk_simp
  rw [after0_3]
  obtain ⟨r, q, rfl⟩ : ∃ (r : Fin 8) (q : Fin 1024), y = ix2 r q := ⟨y 0, y 1, eq_ix2 y⟩
  refine (out3_apply (iblk m c 0 t) (iblk m c 1 t) r q).trans ?_
  rw [blockScore]
  exact (congrArg (weightT (m ((c : Thread nD τ).loc main_arg0)) (m ((c : Thread nD τ).loc main_arg1))) (emb3 t r q)).symm

/-- The first array transposed. -/
theorem transpose_takenT (x : FVec Ideal S16384x4096 .f32) (w : FVec Ideal S128x4096 .f32) :
    transpose S16384x8 [1, 0] (takenT x w) Facts₀.transposes_S8x16384_S16384x8_1_0 = taken x w := by
  funext i
  obtain ⟨t, r, rfl⟩ : ∃ (t : Fin 16384) (r : Fin 8), i = ix2 t r := ⟨i 0, i 1, eq_ix2 i⟩
  rw [transpose_ix2_apply]
  rfl

/-- The second array transposed. -/
theorem transpose_weightT (x : FVec Ideal S16384x4096 .f32) (w : FVec Ideal S128x4096 .f32) :
    transpose S16384x8 [1, 0] (weightT x w) Facts₀.transposes_S8x16384_S16384x8_1_0 = weight x w := by
  funext i
  obtain ⟨t, r, rfl⟩ : ∃ (t : Fin 16384) (r : Fin 8), i = ix2 t r := ⟨i 0, i 1, eq_ix2 i⟩
  rw [transpose_ix2_apply]
  rfl

/-- The first result after the host transposes. -/
theorem tail1 : Pipeline.afterTail₀ cfgs (dats m) 0 (V0 m) [hostOps1] c main_v1
    = taken (m ((c : Thread nD τ).loc main_arg0)) (m ((c : Thread nD τ).loc main_arg1)) := by
  refine Eq.trans (b := transpose S16384x8 [1, 0] ((dats m 0 c).arrAt 2 cfg0.N) Facts₀.transposes_S8x16384_S16384x8_1_0) ?_ ?_
  · unfold Pipeline.afterTail₀
    simp only [List.flatten_cons, List.flatten_nil, List.append_nil]
    after_results_simp
    exact congrArg (transpose S16384x8 [1, 0] · Facts₀.transposes_S8x16384_S16384x8_1_0)
      (Pipeline.withArrays_arr spec0 (by decide) c (V0 m c) (fun w => (dats m 0 c).arrAt w cfg0.N) 2)
  · rw [array2]
    exact transpose_takenT _ _

/-- The second result after the host transposes. -/
theorem tail2 : Pipeline.afterTail₀ cfgs (dats m) 0 (V0 m) [hostOps1] c main_v2
    = weight (m ((c : Thread nD τ).loc main_arg0)) (m ((c : Thread nD τ).loc main_arg1)) := by
  refine Eq.trans (b := transpose S16384x8 [1, 0] ((dats m 0 c).arrAt 3 cfg0.N) Facts₀.transposes_S8x16384_S16384x8_1_0) ?_ ?_
  · unfold Pipeline.afterTail₀
    simp only [List.flatten_cons, List.flatten_nil, List.append_nil]
    after_results_simp
    exact congrArg (transpose S16384x8 [1, 0] · Facts₀.transposes_S8x16384_S16384x8_1_0)
      (Pipeline.withArrays_arr spec0 (by decide) c (V0 m c) (fun w => (dats m 0 c).arrAt w cfg0.N) 3)
  · rw [array3]
    exact transpose_weightT _ _

/-- The kernel's run: both results as functions of the arguments, and the arguments unchanged. -/
theorem kernel_run (ρ : Dev nD → PrngReg) :
    θ_run defs (onTc (τ := τ) (main (F := Ideal))) ⟨m, fun _ => 0, ρ⟩ (fun r => ∀ c : Dev nD,
      r.2.mem ((c.tc : Thread nD τ).loc main_v1)
        = taken (m ((c : Thread nD τ).loc main_arg0)) (m ((c : Thread nD τ).loc main_arg1))
      ∧ r.2.mem ((c.tc : Thread nD τ).loc main_v2)
        = weight (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h.1 c).2 main_v1 (Pipeline.mem_restRefs_of main_v1 (by decide) (by decide))).trans (tail1 m c),
      ((h.1 c).2 main_v2 (Pipeline.mem_restRefs_of main_v2 (by decide) (by decide))).trans (tail2 m c), h.2 c⟩)
    (θ_run_and (run_main m ρ) (unchanged m ρ))

end Cert.Router

end
-- ==== Proof.Bias.lean ====
/-
  The precondition read: where the printed predicate is true, the bias is one real number at every expert.
-/
module

public import proofs.«01_k».proof.Pre_bias_constant
public import proofs.«01_k».proof.Proof.Words
public import Idealize.ShloMosaic.Lib.ReduceAll
public import Idealize.ShloMosaic.Lib.Pipeline.Value

@[expose] public section

noncomputable section

namespace Cert.Router

open Idealize.ShloMosaic Idealize.ShloMosaic.ValueIdx Cert.Pre_bias_constant

/-- The shape conditions that the predicate states. -/
instance biasFacts : Cert.Pre_bias_constant.Facts where
  slices_S128_S1_0 := by decide
  shapeCasts_S1_S_ := by decide
  bcast_S_S128 := by decide
  reducesTo_S128_S_d0 := by decide
  h_S_ := by decide

/-- A shape without axes has one index. -/
instance : Subsingleton S_.Idx := ⟨fun a b => funext fun i => i.elim0⟩

/-- The first expert's bias spread over the experts. -/
theorem first_apply (b : FVec Ideal S128 .f32) (i : S128.Idx) :
    broadcastInDim S128 ![] Facts.bcast_S_S128 (shapeCast S_ (extractStridedSlice S1 ![0] b Facts.slices_S128_S1_0) Facts.shapeCasts_S1_S_) i
      = b (ix1 0) := by
  refine (broadcastInDim_scalar_apply _ _ i).trans ?_
  refine (shapeCast_apply _ _ _ (ix1 0) rfl).trans ?_
  exact extractStridedSlice_apply _ _ _ _ (ix1 0) fun a => by
    match a with
    | ⟨0, _⟩ => rfl

/-- An extended real whose magnitude is below the greatest is a real. -/
theorem real_of_abs_lt (v : EReal) (h : max v (-v) < ⊤) : ∃ β : ℝ, v = (β : EReal) := by
  induction v with
  | bot => simp at h
  | top => simp at h
  | coe r => exact ⟨r, rfl⟩

/-- Where the predicate is true the bias is one real. -/
theorem bias_real (x : FVec Ideal S16384x4096 .f32) (w : FVec Ideal S128x4096 .f32) (b : FVec Ideal S128 .f32)
    (h : Cert.Pre_bias_constant.fn (F := Ideal) x w b = fun _ => 1#1) : ∃ β : ℝ, ∀ e : Fin 128, b (ix1 e) = (β : EReal) := by
  have hall : ∀ e : Fin 128, b (ix1 e) = b (ix1 0) ∧ max (b (ix1 e)) (-(b (ix1 e))) < ⊤ := fun e => by
    have h1 := Host.reduce_andi_all _ _ _ _ ix0 (congrFun h ix0) (ix1 e)
    obtain ⟨ha, hb⟩ := IntOp.andi_eq_one.mp h1
    constructor
    · have ha' : Ideal.cmp .oeq (b (ix1 e)) (b (ix1 0)) = 1#1 := by
        rw [← first_apply b (ix1 e)]
        exact ha
      by_contra hne
      simp [Ideal.cmp, hne] at ha'
    · have hb' : Ideal.cmp .olt (max (b (ix1 e)) (-(b (ix1 e)))) ⊤ = 1#1 := by
        rw [← ofBits_inf]
        exact hb
      by_contra hlt
      simp only [Ideal.cmp, decide_eq_false hlt] at hb'
      exact absurd hb' (by decide)
  obtain ⟨β, hβ⟩ := real_of_abs_lt _ (hall 0).2
  exact ⟨β, fun e => (hall e).1.trans hβ⟩

end Cert.Router

end
-- ==== Proof.RefOps.lean ====
/-
  How the reference's two index operations read: the positions that a top-k along the rows of a matrix returns, and a
  gather that takes one element of each row by that row's own index.
-/
module

public import proofs.«01_k».proof.Proof.Rounds
public import Idealize.ShloMosaic.Lib.SortFacts
public import Idealize.ShloMosaic.Lib.ValueIdx
public import Idealize.ShloMosaic.Lib.Pipeline.Value
public import Idealize.ShloMosaic.Lib.IdealHost

@[expose] public section

noncomputable section

namespace Cert.Router

open Idealize.ShloMosaic Idealize.ShloMosaic.ValueIdx

/-- The order by which the reference ranks scores, as a truth value. -/
theorem ranks (a b : EReal) : ((FloatOps.cmpfTotal (F := Ideal) (φ := .f32) .gt a b : BitVec 1) == 1#1) = decide (b < a) := by
  show (Ideal.cmp CmpDirection.gt.ordered a b == 1#1) = _
  by_cases h : b < a <;> simp [Ideal.cmp, CmpDirection.ordered, h]

/-- The positions of the greatest `k` elements of each row, read at row `i` and rank `r`: where the stable sort of the row
    takes its element of rank `r` from. -/
theorem topK_rows {a n k : ℕ} (x : FVec Ideal ⟨2, ![a, n]⟩ .f32)
    (h : (⟨2, ![a, n]⟩ : Shape).Slices (fun _ => 0) ⟨2, ![a, k]⟩) (hk : k ≤ n) (i : Fin a) (r : Fin k) :
    (Host.topK ⟨2, ![a, k]⟩ 1 (FloatOps.cmpfTotal .gt) x h).2 (ix2 i r)
      = BitVec.ofNat 32 (sortedFrom (fun p q : Fin n => decide (x (ix2 i q) < x (ix2 i p))) (r.castLE hk)).val := by
  show extractStridedSlice ⟨2, ![a, k]⟩ (fun _ => 0) (Host.sort2 ⟨2, ![a, n]⟩ 1
    (fun l r => FloatOps.cmpfTotal (F := Ideal) (φ := .f32) .gt l.1 r.1) x (fun i => if hd : 1 < 2 then iotaInDim ⟨2, ![a, n]⟩ 32 ⟨1, hd⟩ i else 0#32)).2 h
    (ix2 i r) = _
  refine (extractStridedSlice_apply _ _ h (ix2 i r) (ix2 i (r.castLE hk)) fun c => ?_).trans ?_
  · match c with
    | ⟨0, _⟩ => exact (Nat.zero_add _).symm
    | ⟨1, _⟩ => exact (Nat.zero_add _).symm
  · have hal : ∀ q : Fin n, Shape.Idx.along (s := ⟨2, ![a, n]⟩) (ix2 i (r.castLE hk)) 1 q = ix2 i q := fun q => by
      funext c
      match c with
      | ⟨0, _⟩ => rfl
      | ⟨1, _⟩ => rfl
    unfold Host.sort2
    rw [dif_pos (show 1 < (⟨2, ![a, n]⟩ : Shape).rank from Nat.one_lt_two)]
    refine congrArg (fun p : Fin n => BitVec.ofNat 32 p.val) ?_
    refine congrArg (fun f => sortedFrom f (r.castLE hk)) ?_
    funext p q
    refine (ranks _ _).trans ?_
    exact congrArg₂ (fun u v => decide (x u < x v)) (hal q) (hal p)

/-- The dimension numbers of a gather that takes from row `i` of an `[A, N]` matrix the elements that the indices
    `[i, j, 0]` name, one for each `j`. -/
abbrev rowTake (A N B : ℕ)
    (wf : GatherDims.WF ⟨2, ![A, N]⟩ ⟨3, ![A, B, 1]⟩ ⟨2, ![A, B]⟩ [] [1] [0] [1] [0] 2 ![1, 1]) :
    GatherDims ⟨2, ![A, N]⟩ ⟨3, ![A, B, 1]⟩ ⟨2, ![A, B]⟩ where
  offsetDims := []
  collapsedSliceDims := [1]
  operandBatchingDims := [0]
  startIndicesBatchingDims := [0]
  startIndexMap := [1]
  indexVectorDim := 2
  sliceSizes := ![1, 1]
  wf := wf

/-- That gather at `(i, j)`: row `i` at the position that index `[i, j, 0]` names, read signed and brought into the row. -/
theorem gather_rows {α : Type} {A N B w : ℕ} (hN : 0 < N)
    (wf : GatherDims.WF ⟨2, ![A, N]⟩ ⟨3, ![A, B, 1]⟩ ⟨2, ![A, B]⟩ [] [1] [0] [1] [0] 2 ![1, 1])
    (x : (⟨2, ![A, N]⟩ : Shape).Idx → α) (idx : IVec ⟨3, ![A, B, 1]⟩ w) (i : Fin A) (j : Fin B) :
    Host.gather (rowTake A N B wf) x idx (ix2 i j) = x (ix2 i ⟨min (idx (ix3 i j 0)).toInt.toNat (N - 1), by omega⟩) := by
  unfold Host.gather
  refine congrArg x ?_
  funext c
  refine Fin.ext ?_
  show (rowTake A N B wf).start (ix2 i j) idx c + (rowTake A N B wf).batchCoord (ix2 i j) c
      + (rowTake A N B wf).offCoord (ix2 i j) c = _
  have h01 : c = 1 ∨ c = 0 := by
    match c with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (rowTake A N B wf).startIndexMap from List.mem_singleton.mpr rfl)]
    have hsi : (rowTake A N B wf).siIdx (ix2 i j) ⟨List.idxOf (1 : Fin 2) (rowTake A N B wf).startIndexMap,
        List.idxOf_lt_length_iff.2 (List.mem_singleton.mpr rfl)⟩ = ix3 i j 0 := by
      funext b; refine Fin.ext ?_
      match b with
      | ⟨0, _⟩ => rfl
      | ⟨1, _⟩ => rfl
      | ⟨2, _⟩ => rfl
    rw [hsi]
    rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

end Cert.Router

end
-- ==== Proof.RefMask.lean ====
/-
  The reference's choice of groups. There is one group, so the group of every token is group 0, the scatter marks it for
  every token, and the mask over the experts lets every expert through.
-/
module

public import proofs.«01_k».proof.Proof.Gen.ReferenceIdeal
public import proofs.«01_k».proof.Proof.RefOps
public import Idealize.ShloMosaic.Lib.Routing.OpsPair
public import Idealize.ShloMosaic.Lib.Routing.OpsSet

@[expose] public section

noncomputable section

namespace Cert.Router

open Idealize.ShloMosaic Idealize.ShloMosaic.ValueIdx Cert.ReferenceIdeal Cert.ReferenceIdeal.Gen

/-- A scalar spread over a shape reads as the scalar everywhere. -/
theorem spread {T : Shape} {α : Type} (h : S_.BroadcastsInDim T ![]) (x : S_.Idx → α) (j : T.Idx) :
    broadcastInDim T ![] h x j = x ix0 := broadcastInDim_scalar_apply h x j

/-- The group chosen for each token, from the groups' scores. -/
def group (g : FVec Ideal S16384x1 .f32) : IVec S16384x1 32 :=
  (Host.topK S16384x1 1 (FloatOps.cmpfTotal .gt) g sliceFits_S16384x1_S16384x1).2

/-- It is group 0. -/
theorem group_apply (g : FVec Ideal S16384x1 .f32) (t : Fin 16384) (u : Fin 1) : group g (ix2 t u) = 0#32 := by
  refine (topK_rows g _ le_rfl t u).trans ?_
  rw [show (sortedFrom (fun p q : Fin 1 => decide (g (ix2 t q) < g (ix2 t p))) (u.castLE le_rfl)).val = 0 from Nat.lt_one_iff.mp (Fin.isLt _)]

/-- Each token's own number. -/
def number : IVec S16384x1 32 := broadcastInDim S16384x1 ![0] bcast_S16384_S16384x1_0 (iotaInDim S16384 32 0)

/-- A token's number at that token. -/
theorem number_apply (t : Fin 16384) (u : Fin 1) : number (ix2 t u) = BitVec.ofNat 32 t.val := by
  unfold number
  exact broadcastInDim_apply _ _ _ _ (ix1 t) fun a => by
    match a with
    | ⟨0, _⟩ => rfl

/-- An index that counts from the end when negative, brought to count from the start. -/
def wrapped (y : IVec S16384x1 32) (n : BitVec 32) : IVec S16384x1 32 :=
  select (cmpi .slt y (broadcastInDim S16384x1 ![] bcast_S_S16384x1 (constantI S_ 32 0#32)))
    (addi y (broadcastInDim S16384x1 ![] bcast_S_S16384x1 (constantI S_ 32 n))) y

/-- An index that is not negative stays. -/
theorem wrapped_apply (y : IVec S16384x1 32) (n : BitVec 32) (i : S16384x1.Idx) (h : (y i).toNat < 2 ^ 31) :
    wrapped y n i = y i := Routing.wrap_of_lt (y i) _ h

/-- The indices of the scatter: each token's number beside its group. -/
def places (p q : IVec S16384x1 32) : IVec S16384x1x2 32 :=
  concatenate S16384x1x2 2
    [⟨S16384x1x1, broadcastInDim S16384x1x1 ![0, 1] bcast_S16384x1_S16384x1x1_0_1 p⟩,
     ⟨S16384x1x1, broadcastInDim S16384x1x1 ![0, 1] bcast_S16384x1_S16384x1x1_0_1 q⟩]
    concatenates_S16384x1x1_S16384x1x1_S16384x1x2_d2

/-- A unit axis added at the end reads as the operand. -/
theorem unit_apply {α : Type} (p : S16384x1.Idx → α) (t : Fin 16384) (u v : Fin 1) :
    broadcastInDim S16384x1x1 ![0, 1] bcast_S16384x1_S16384x1x1_0_1 p (ix3 t u v) = p (ix2 t u) :=
  broadcastInDim_apply _ _ _ _ (ix2 t u) fun a => by
    match a with
    | ⟨0, _⟩ => rfl
    | ⟨1, _⟩ => exact Nat.lt_one_iff.mp u.isLt

/-- The first index of a token. -/
theorem places_fst (p q : IVec S16384x1 32) (t : Fin 16384) (u : Fin 1) : places p q (ix3 t u 0) = p (ix2 t u) := by
  unfold places
  refine (concatenate_apply_piece (t := S16384x1x2) 2 _ _ (ix3 t u 0) 0 (by exact Nat.zero_lt_two) S16384x1x1 _ rfl rfl 0 rfl (ix3 t u 0) (fun b hb => ?_) rfl).trans
    (unit_apply p t u 0)
  match b with
  | ⟨0, _⟩ => rfl
  | ⟨1, _⟩ => rfl
  | ⟨2, _⟩ => exact absurd rfl hb

/-- The second index of a token. -/
theorem places_snd (p q : IVec S16384x1 32) (t : Fin 16384) (u : Fin 1) : places p q (ix3 t u 1) = q (ix2 t u) := by
  unfold places
  refine (concatenate_apply_piece (t := S16384x1x2) 2 _ _ (ix3 t u 1) 1 (by exact Nat.one_lt_two) S16384x1x1 _ rfl rfl 1 rfl (ix3 t u 0) (fun b hb => ?_) rfl).trans
    (unit_apply q t u 0)
  match b with
  | ⟨0, _⟩ => rfl
  | ⟨1, _⟩ => rfl
  | ⟨2, _⟩ => exact absurd rfl hb

/-- The marks of the chosen groups: zeros, with a one at each of the given places. -/
def marks (ix : IVec S16384x1x2 32) : FVec Ideal S16384x1 .f32 :=
  Host.scatter scatter_S16384x1_S16384x1x2_S16384x1_n_01_01_2 (fun _ b => b)
    (broadcastInDim S16384x1 ![] bcast_S_S16384x1 (constant S_ .f32 0x00000000#32)) ix
    (broadcastInDim S16384x1 ![] bcast_S_S16384x1 (constant S_ .f32 0x3F800000#32))

/-- Where a place names its own token and group 0, that token's group is marked. -/
theorem marks_apply (ix : IVec S16384x1x2 32) (t : Fin 16384) (u : Fin 1) (h0 : (ix (ix3 t u 0)).toInt = t.val)
    (h1 : (ix (ix3 t u 1)).toInt = u.val) : marks ix (ix2 t u) = 1 := by
  unfold marks
  refine Routing.scatter_set_hit _ _ _ _ (ix2 t u) 1 (fun k _ => ?_) (ix2 t u)
    ((Routing.scatter_lands2 _ rfl rfl rfl ix t u t u).mpr ⟨h0, h1⟩)
  rw [spread]
  exact Ideal.ofBits_one_f32

/-- The mask over the experts: an expert passes where its token's group is marked. -/
def mask (mk : FVec Ideal S16384x1 .f32) : IVec S16384x128 1 :=
  id (cmpf (F := Ideal) (φ := .f32) .une (shapeCast S16384x128 (broadcastInDim S16384x1x128 ![0, 1, 2] bcast_S16384x1x1_S16384x1x128_0_1_2
      (broadcastInDim S16384x1x1 ![0, 1] bcast_S16384x1_S16384x1x1_0_1 mk)) shapeCasts_S16384x1x128_S16384x128)
    (broadcastInDim S16384x128 ![] bcast_S_S16384x128 (constant S_ .f32 0x00000000#32)))

/-- A group's mark spread over its experts. -/
theorem over_experts (mk : FVec Ideal S16384x1 .f32) (t : Fin 16384) (e : Fin 128) :
    shapeCast S16384x128 (broadcastInDim S16384x1x128 ![0, 1, 2] bcast_S16384x1x1_S16384x1x128_0_1_2
      (broadcastInDim S16384x1x1 ![0, 1] bcast_S16384x1_S16384x1x1_0_1 mk)) shapeCasts_S16384x1x128_S16384x128
      (ix2 t e) = mk (ix2 t 0) := by
  refine (shapeCast_apply _ _ _ (ix3 t 0 e) ?_).trans ?_
  · rw [Shape.rowMajor_val_three, Shape.rowMajor_val_two]
    show (t.val * 1 + 0) * 128 + e.val = t.val * 128 + e.val
    omega
  · refine (broadcastInDim_apply _ _ _ _ (ix3 t 0 0) fun a => ?_).trans (unit_apply mk t 0 0)
    match a with
    | ⟨0, _⟩ => rfl
    | ⟨1, _⟩ => rfl
    | ⟨2, _⟩ => rfl

/-- Where a token's group is marked every expert passes. -/
theorem mask_apply (mk : FVec Ideal S16384x1 .f32) (t : Fin 16384) (e : Fin 128) (h : mk (ix2 t 0) = 1) :
    mask mk (ix2 t e) = 1#1 := by
  show FloatOps.cmpf (F := Ideal) (φ := .f32) .une _ _ = 1#1
  rw [over_experts, h, spread]
  rw [show (constant (F := Ideal) S_ .f32 0x00000000#32 ix0 : EReal) = 0 from Ideal.ofBits_zero_f32]
  show Ideal.cmp .une 1 0 = 1#1
  simp [Ideal.cmp]

/-- The mask of the reference, whatever the groups' scores. -/
theorem mask_all (g : FVec Ideal S16384x1 .f32) (t : Fin 16384) (e : Fin 128) :
    mask (marks (places (wrapped number 16384#32) (wrapped (group g) 1#32))) (ix2 t e) = 1#1 := by
  have hn : (BitVec.ofNat 32 t.val).toNat = t.val := by
    rw [BitVec.toNat_ofNat]; exact Nat.mod_eq_of_lt (by omega)
  refine mask_apply _ t e (marks_apply _ t 0 ?_ ?_)
  · rw [places_fst, wrapped_apply _ _ _ (by rw [number_apply, hn]; omega), number_apply,
      BitVec.toInt_eq_toNat_of_lt (by rw [hn]; omega), hn]
  · rw [places_snd, wrapped_apply _ _ _ (by rw [group_apply]; decide), group_apply]
    rfl

end Cert.Router

end
-- ==== Proof.RefValue.lean ====
/-
  What the reference computes. Its scores are the kernel's scores; a bias that is the same real at every expert does not
  change their order; so its top-k takes the experts that the kernel's rounds take, and the weights are their scores over
  the total.
-/
module

public import proofs.«01_k».proof.Proof.Gen.ReferenceIdeal.Run
public import proofs.«01_k».proof.Proof.RefMask
public import proofs.«01_k».proof.Proof.KernelValue
public import Idealize.ShloMosaic.Lib.StackMember
public import Idealize.ShloMosaic.Lib.ValueLayout
public import Idealize.ShloMosaic.Lib.ReduceAll

@[expose] public section

noncomputable section

namespace Cert.Router

open Idealize.ShloMosaic Idealize.ShloMosaic.ValueIdx Idealize.ShloMosaic.TcCoe Cert.ReferenceIdeal Cert.ReferenceIdeal.Gen

/-- The reference's scores: one over one plus the exponential of the negated products. -/
def refScores (x : FVec Ideal S16384x4096 .f32) (w : FVec Ideal S128x4096 .f32) : FVec Ideal S16384x128 .f32 :=
  Host.divf (broadcastInDim S16384x128 ![] bcast_S_S16384x128 (constant S_ .f32 0x3F800000#32))
    (addf (broadcastInDim S16384x128 ![] bcast_S_S16384x128 (constant S_ .f32 0x3F800000#32))
      (Host.exp (Host.negf (Host.dotGeneral dot_S16384x4096_S4096x128_S16384x128_1_0_0_1_n_n none x
        (transpose S4096x128 [1, 0] w transposes_S128x4096_S4096x128_1_0)))))

/-- The products of the tokens with the experts' rows. -/
theorem products_apply (x : FVec Ideal S16384x4096 .f32) (w : FVec Ideal S128x4096 .f32) (t : Fin 16384) (e : Fin 128) :
    Host.dotGeneral (F := Ideal) dot_S16384x4096_S4096x128_S16384x128_1_0_0_1_n_n none x
        (transpose S4096x128 [1, 0] w transposes_S128x4096_S4096x128_1_0) (ix2 t e)
      = ∑ k : Fin 4096, x (ix2 t k) * w (ix2 e k) := by
  refine (StackMember.dotGeneral_plain_apply none x _ t e).trans ?_
  exact Finset.sum_congr rfl fun k _ => congrArg (x (ix2 t k) * ·) (transpose_ix2_apply w _ k e)

/-- They are the kernel's scores. -/
theorem refScores_apply (x : FVec Ideal S16384x4096 .f32) (w : FVec Ideal S128x4096 .f32) (t : Fin 16384) (e : Fin 128) :
    refScores x w (ix2 t e) = tokenScore x w t e := by
  unfold refScores
  rw [hostDivf_apply, addf_apply, spread]
  rw [show (constant (F := Ideal) S_ .f32 0x3F800000#32 ix0 : EReal) = 1 from Ideal.ofBits_one_f32]
  exact congrArg Ideal.logistic (products_apply x w t e)

/-- The scores that the reference ranks: those with the bias added. -/
def biased (x : FVec Ideal S16384x4096 .f32) (w : FVec Ideal S128x4096 .f32) (b : FVec Ideal S128 .f32) : FVec Ideal S16384x128 .f32 :=
  addf (refScores x w) (broadcastInDim S16384x128 ![0, 1] bcast_S1x128_S16384x128_0_1 (broadcastInDim S1x128 ![1] bcast_S128_S1x128_1 b))

/-- A biased score. -/
theorem biased_apply (x : FVec Ideal S16384x4096 .f32) (w : FVec Ideal S128x4096 .f32) (b : FVec Ideal S128 .f32) (t : Fin 16384)
    (e : Fin 128) : biased x w b (ix2 t e) = tokenScore x w t e + b (ix1 e) := by
  unfold biased
  rw [addf_apply, refScores_apply]
  refine congrArg (tokenScore x w t e + ·) ?_
  refine (broadcastInDim_apply _ _ _ _ (ix2 0 e) fun a => ?_).trans (broadcastInDim_apply _ _ _ _ (ix1 e) fun a => ?_)
  · match a with
    | ⟨0, _⟩ => rfl
    | ⟨1, _⟩ => rfl
  · match a with
    | ⟨0, _⟩ => rfl

/-- A choice between two arrays takes the first where the condition is 1. -/
theorem select_fst {T : Shape} {α : Type} (p : IVec T 1) (a b : T.Idx → α) (i : T.Idx) (h : p i = 1#1) : select p a b i = a i := by
  show Scalar.select (p i) (a i) (b i) = a i
  rw [h]
  rfl

/-- The scores of the groups: of each, the sum of its two greatest biased scores. -/
def groupScores (ch : FVec Ideal S16384x128 .f32) : FVec Ideal S16384x1 .f32 :=
  Host.reduceAdd (Host.topK S16384x1x2 2 (FloatOps.cmpfTotal .gt) (shapeCast S16384x1x128 ch shapeCasts_S16384x128_S16384x1x128)
    sliceFits_S16384x1x128_S16384x1x2).1 (constant S_ .f32 0x00000000#32) reducesTo_S16384x1x2_S16384x1_d2 h_S_

/-- The biased scores of the experts in chosen groups, 0 for the others. -/
def masked (ch : FVec Ideal S16384x128 .f32) : FVec Ideal S16384x128 .f32 :=
  select (mask (marks (places (wrapped number 16384#32) (wrapped (group (groupScores ch)) 1#32)))) ch
    (broadcastInDim S16384x128 ![] bcast_S_S16384x128 (id (constant S_ .f32 0x00000000#32)))

/-- Every expert is in a chosen group. -/
theorem masked_apply (ch : FVec Ideal S16384x128 .f32) (t : Fin 16384) (e : Fin 128) : masked ch (ix2 t e) = ch (ix2 t e) :=
  select_fst _ _ _ _ (mask_all (groupScores ch) t e)

/-- The experts that the reference takes. -/
def refTaken (x : FVec Ideal S16384x4096 .f32) (w : FVec Ideal S128x4096 .f32) (b : FVec Ideal S128 .f32) : IVec S16384x8 32 :=
  (Host.topK S16384x8 1 (FloatOps.cmpfTotal .gt) (masked (biased x w b)) sliceFits_S16384x128_S16384x8).2

/-- Adding one real to two extended reals keeps their order. -/
theorem add_real_lt (a b : EReal) (β : ℝ) : a + (β : EReal) < b + (β : EReal) ↔ a < b :=
  ⟨fun h => lt_of_not_ge fun hba => absurd (add_le_add_left hba (β : EReal)) (not_le.mpr h),
    fun h => EReal.add_lt_add_right_coe h β⟩

/-- Under a bias that is one real, the experts that the reference takes are those that the kernel's rounds take. -/
theorem refTaken_apply (x : FVec Ideal S16384x4096 .f32) (w : FVec Ideal S128x4096 .f32) (b : FVec Ideal S128 .f32) (β : ℝ)
    (hb : ∀ e : Fin 128, b (ix1 e) = (β : EReal)) (t : Fin 16384) (r : Fin 8) : refTaken x w b (ix2 t r) = takenAt x w t r := by
  refine (topK_rows (masked (biased x w b)) _ (by decide) t r).trans ?_
  refine congrArg (fun e : Fin 128 => BitVec.ofNat 32 e.val) ?_
  have h : (fun p q : Fin 128 => decide (masked (biased x w b) (ix2 t q) < masked (biased x w b) (ix2 t p)))
      = fun p q => decide (tokenScore x w t q < tokenScore x w t p) := by
    funext p q
    rw [masked_apply, masked_apply, biased_apply, biased_apply, hb, hb]
    exact decide_eq_decide.mpr (add_real_lt _ _ β)
  exact (congrArg (fun f => sortedFrom f (r.castLE (by decide))) h).trans
    (sortedFrom_eq_sel (tokenScore x w t) (bot_lt_score _ _) (r.castLE (by decide)))

/-- The indices of the gather: the taken experts, with a unit axis at the end. -/
def lookups (ix : IVec S16384x8 32) : IVec S16384x8x1 32 :=
  shapeCast S16384x8x1 (select (cmpi .slt ix (broadcastInDim S16384x8 ![] bcast_S_S16384x8 (constantI S_ 32 0#32)))
    (addi ix (broadcastInDim S16384x8 ![] bcast_S_S16384x8 (constantI S_ 32 128#32))) ix) shapeCasts_S16384x8_S16384x8x1

/-- An index that is not negative is looked up as it is. -/
theorem lookups_apply (ix : IVec S16384x8 32) (t : Fin 16384) (r : Fin 8) (u : Fin 1) (h : (ix (ix2 t r)).toNat < 2 ^ 31) :
    lookups ix (ix3 t r u) = ix (ix2 t r) := by
  unfold lookups
  refine (shapeCast_apply _ _ _ (ix2 t r) ?_).trans (Routing.wrap_of_lt (ix (ix2 t r)) _ h)
  rw [Shape.rowMajor_val_three, Shape.rowMajor_val_two]
  show t.val * 8 + r.val = (t.val * 8 + r.val) * 1 + u.val
  omega

/-- Which indices lie within the row. -/
def within (v : IVec S16384x8x1 32) : IVec S16384x8 1 :=
  Host.reduce IntOp.andi
    (andi (cmpi .sge v (broadcastInDim S16384x8x1 ![] bcast_S_S16384x8x1 (constantI S_ 32 0#32)))
      (cmpi .sle v (broadcastInDim S16384x8x1 ![0, 1, 2] bcast_S1x1x1_S16384x8x1_0_1_2
        (broadcastInDim S1x1x1 ![2] bcast_S1_S1x1x1_2 (constantI S1 32 127#32)))))
    (constantI S_ 1 1#1) reducesTo_S16384x8x1_S16384x8_d2 h_S_

/-- If all are below 128 all lie within. -/
theorem within_all (v : IVec S16384x8x1 32) (h : ∀ i, ∃ e : Fin 128, v i = BitVec.ofNat 32 e.val) (j : S16384x8.Idx) : within v j = 1#1 := by
  refine Host.reduce_andi_one _ _ _ _ j rfl fun i => ?_
  obtain ⟨e, he⟩ := h i
  show IntOp.andi (IntOp.cmpi .sge (v i) 0#32) (IntOp.cmpi .sle (v i) 127#32) = 1#1
  rw [he]
  exact (by decide : ∀ e : Fin 128, IntOp.andi (IntOp.cmpi .sge (BitVec.ofNat 32 e.val) 0#32)
    (IntOp.cmpi .sle (BitVec.ofNat 32 e.val) 127#32) = 1#1) e

/-- The taken scores: each token's scores looked up at its taken experts. -/
def looked (s : FVec Ideal S16384x128 .f32) (v : IVec S16384x8x1 32) : FVec Ideal S16384x8 .f32 :=
  select (within v) (Host.gather gather_S16384x128_S16384x8x1_S16384x8_n_1_0_0_1_2_11 s v)
    (broadcastInDim S16384x8 ![] bcast_S_S16384x8 (constant S_ .f32 0x7FC00000#32))

/-- A score looked up at an expert's number is that expert's score. -/
theorem looked_apply (s : FVec Ideal S16384x128 .f32) (v : IVec S16384x8x1 32) (h : ∀ i, ∃ e : Fin 128, v i = BitVec.ofNat 32 e.val)
    (t : Fin 16384) (r : Fin 8) (e : Fin 128) (he : v (ix3 t r 0) = BitVec.ofNat 32 e.val) : looked s v (ix2 t r) = s (ix2 t e) := by
  refine (select_fst _ _ _ _ (within_all v h _)).trans ?_
  refine (gather_rows (by decide) _ s v t r).trans ?_
  refine congrArg (fun q => s (ix2 t q)) (Fin.ext ?_)
  show min (v (ix3 t r 0)).toInt.toNat 127 = e.val
  rw [he, toInt_word e.val (by omega)]
  omega

/-- The weights from the taken scores. -/
def normed (s : FVec Ideal S16384x8 .f32) : FVec Ideal S16384x8 .f32 :=
  mulf (Host.divf s (broadcastInDim S16384x8 ![0, 1] bcast_S16384x1_S16384x8_0_1
      (addf (broadcastInDim S16384x1 ![0] bcast_S16384_S16384x1_0
          (Host.reduceAdd s (constant S_ .f32 0x00000000#32) reducesTo_S16384x8_S16384_d1 h_S_))
        (broadcastInDim S16384x1 ![] bcast_S_S16384x1 (constant S_ .f32 0x1E3CE508#32)))))
    (broadcastInDim S16384x8 ![] bcast_S_S16384x8 (constant S_ .f32 0x3F800000#32))

/-- The sum of a token's eight taken scores. -/
theorem sum_apply (s : FVec Ideal S16384x8 .f32) (t : Fin 16384) :
    Host.reduceAdd s (constant S_ .f32 0x00000000#32) reducesTo_S16384x8_S16384_d1 h_S_ (ix1 t) = ∑ r : Fin 8, s (ix2 t r) := by
  rw [hostReduceAdd_apply]
  refine (Ideal.hostReduceAdd_single _ (by decide) s _ (ix1 t)).trans ?_
  rw [show (constant (F := Ideal) S_ .f32 0x00000000#32 (Shape.Idx.first h_S_) : EReal) = 0 from Ideal.ofBits_zero_f32, zero_add]
  refine Finset.sum_congr rfl fun r _ => congrArg s ?_
  funext c
  match c with
  | ⟨0, _⟩ => rfl
  | ⟨1, _⟩ => rfl

/-- A weight: the taken score over the sum of the eight and the constant. -/
theorem normed_apply (s : FVec Ideal S16384x8 .f32) (t : Fin 16384) (r : Fin 8) :
    normed s (ix2 t r) = Ideal.div (s (ix2 t r)) ((∑ k : Fin 8, s (ix2 t k)) + eps) := by
  unfold normed
  rw [mulf_apply, hostDivf_apply, spread]
  rw [show (constant (F := Ideal) S_ .f32 0x3F800000#32 ix0 : EReal) = 1 from Ideal.ofBits_one_f32, mul_one]
  refine congrArg (Ideal.div (s (ix2 t r))) ?_
  refine (broadcastInDim_apply _ _ _ _ (ix2 t 0) fun a => ?_).trans ?_
  · match a with
    | ⟨0, _⟩ => rfl
    | ⟨1, _⟩ => rfl
  · rw [addf_apply, spread]
    refine congrArg (· + eps) ?_
    refine (broadcastInDim_apply _ _ _ _ (ix1 t) fun a => ?_).trans (sum_apply s t)
    match a with
    | ⟨0, _⟩ => rfl

/-- The weights that the reference returns. -/
def refWeight (x : FVec Ideal S16384x4096 .f32) (w : FVec Ideal S128x4096 .f32) (b : FVec Ideal S128 .f32) : FVec Ideal S16384x8 .f32 :=
  normed (looked (refScores x w) (lookups (refTaken x w b)))

/-- Under a bias that is one real, a weight is the score of the kernel's taken expert over the kernel's total. -/
theorem refWeight_apply (x : FVec Ideal S16384x4096 .f32) (w : FVec Ideal S128x4096 .f32) (b : FVec Ideal S128 .f32) (β : ℝ)
    (hb : ∀ e : Fin 128, b (ix1 e) = (β : EReal)) (t : Fin 16384) (r : Fin 8) :
    refWeight x w b (ix2 t r)
      = Ideal.div (tokenScore x w t (sel (tokenScore x w t) r.val)) (total (tokenScore x w t)) := by
  have hv : ∀ (t : Fin 16384) (r : Fin 8) (u : Fin 1),
      lookups (refTaken x w b) (ix3 t r u) = BitVec.ofNat 32 (sel (tokenScore x w t) r.val).val := fun t r u => by
    have h := refTaken_apply x w b β hb t r
    rw [lookups_apply, h, takenAt]
    rw [h, takenAt, BitVec.toNat_ofNat]
    exact lt_of_le_of_lt (Nat.mod_le _ _) (lt_trans (Fin.isLt _) (by decide))
  have hl : ∀ (t : Fin 16384) (r : Fin 8),
      looked (refScores x w) (lookups (refTaken x w b)) (ix2 t r) = tokenScore x w t (sel (tokenScore x w t) r.val) := fun t r => by
    rw [looked_apply _ _ (fun i => ?_) t r _ (hv t r 0), refScores_apply]
    refine ⟨sel (tokenScore x w (i 0)) (i 1).val, ?_⟩
    refine (congrArg (lookups (refTaken x w b)) ?_).trans (hv (i 0) (i 1) (i 2))
    exact eq_ix3 i
  unfold refWeight
  rw [normed_apply, hl, Finset.sum_congr rfl fun k _ => hl t k]
  rfl

variable (m : (ℓ : Loc nD τ sig) → Buf (Elt Ideal) ℓ) (c : Dev nD)

set_option maxRecDepth 8192 in
/-- The first result of the printed reference is the experts read above. -/
theorem res_taken : Value.res_out0 m c = refTaken (m ((c.tc : Thread nD τ).loc main_arg0)) (m ((c.tc : Thread nD τ).loc main_arg1))
    (m ((c.tc : Thread nD τ).loc main_arg2)) := rfl

set_option maxRecDepth 8192 in
/-- The second result of the printed reference is the weights read above. -/
theorem res_weight : Value.res_out1 m c = refWeight (m ((c.tc : Thread nD τ).loc main_arg0)) (m ((c.tc : Thread nD τ).loc main_arg1))
    (m ((c.tc : Thread nD τ).loc main_arg2)) := rfl

end Cert.Router

end
-- ==== Proof.Equation.lean ====
/-
  The equation between the two programs. The experts are the same by RefValue.lean. The weights are a score times the
  reciprocal of the total in the kernel and the score over the total in the reference; the total is a positive real, so the
  two are equal.
-/
module

public import proofs.«01_k».proof.Proof.RefValue

@[expose] public section

noncomputable section

namespace Cert.Router

open Idealize.ShloMosaic Idealize.ShloMosaic.ValueIdx Cert.ReferenceIdeal

/-- A finite sum of extended reals that are reals, none negative, is a real and not negative. -/
theorem sum_real {n : ℕ} (f : Fin n → EReal) (h : ∀ k, ∃ r : ℝ, 0 ≤ r ∧ f k = (r : EReal)) :
    ∃ r : ℝ, 0 ≤ r ∧ ∑ k, f k = (r : EReal) := by
  choose g hg hf using h
  refine ⟨∑ k, g k, Finset.sum_nonneg fun k _ => hg k, ?_⟩
  rw [Finset.sum_congr rfl fun k _ => hf k]
  exact (map_sum (⟨⟨fun r : ℝ => (r : EReal), rfl⟩, EReal.coe_add⟩ : ℝ →+ EReal) g Finset.univ).symm

/-- The total of a token is a positive real. -/
theorem total_real (x : FVec Ideal S16384x4096 .f32) (w : FVec Ideal S128x4096 .f32) (t : Fin 16384) :
    ∃ d : ℝ, 0 < d ∧ total (tokenScore x w t) = (d : EReal) := by
  obtain ⟨a, ha, hs⟩ := sum_real (fun k : Fin 8 => tokenScore x w t (sel (tokenScore x w t) k.val)) fun k => logistic_real _
  obtain ⟨ε, hε, he⟩ := ofBits_eps
  refine ⟨a + ε, by positivity, ?_⟩
  unfold total
  rw [hs, EReal.coe_add]
  exact congrArg ((a : EReal) + ·) he

/-- A quotient by a nonzero real is the product with its reciprocal. -/
theorem mul_recip (v : EReal) (d : ℝ) (h : d ≠ 0) : v * Ideal.div 1 (d : EReal) = Ideal.div v (d : EReal) := by
  rw [Ideal.div_coe h, Ideal.div_coe h, one_mul]

/-- The two programs take the same experts. -/
theorem taken_eq (x : FVec Ideal S16384x4096 .f32) (w : FVec Ideal S128x4096 .f32) (b : FVec Ideal S128 .f32) (β : ℝ)
    (hb : ∀ e : Fin 128, b (ix1 e) = (β : EReal)) : refTaken x w b = taken x w := by
  funext i
  obtain ⟨t, r, rfl⟩ : ∃ (t : Fin 16384) (r : Fin 8), i = ix2 t r := ⟨i 0, i 1, eq_ix2 i⟩
  exact refTaken_apply x w b β hb t r

/-- The two programs give the same weights. -/
theorem weight_eq (x : FVec Ideal S16384x4096 .f32) (w : FVec Ideal S128x4096 .f32) (b : FVec Ideal S128 .f32) (β : ℝ)
    (hb : ∀ e : Fin 128, b (ix1 e) = (β : EReal)) : refWeight x w b = weight x w := by
  funext i
  obtain ⟨t, r, rfl⟩ : ∃ (t : Fin 16384) (r : Fin 8), i = ix2 t r := ⟨i 0, i 1, eq_ix2 i⟩
  rw [refWeight_apply x w b β hb t r]
  obtain ⟨d, hd, hT⟩ := total_real x w t
  show _ = tokenScore x w t (sel (tokenScore x w t) r.val) * Ideal.div 1 (total (tokenScore x w t))
  rw [hT, mul_recip _ d hd.ne']

end Cert.Router

end
-- ==== Proof.lean ====
/-
  The certificate. The frames are read off the generated launches; the value claim joins the kernel's run (KernelValue.lean)
  and the reference's run, whose results Equation.lean proves equal under the precondition that Bias.lean reads.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelValue
public import proofs.«01_k».proof.Proof.Bias
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The kernel as printed runs, keeps its arguments and leaves every semaphore at zero. -/
theorem frame_kernel : Cert.quiescent_Kernel := fun m g _ => Cert.Kernel.Gen.frame m g

/-- So does the kernel read at the extended reals. -/
theorem frame_ideal : Cert.quiescent_KernelIdeal := fun m g _ => Cert.KernelIdeal.Gen.frame m g

/-- In particular where the bias is constant. -/
theorem frame_ideal_bias : Cert.quiescent_KernelIdeal_pre_bias_constant := fun m g _ => Cert.KernelIdeal.Gen.frame m g

/-- The reference runs and keeps its arguments; it has no semaphore. -/
theorem frame_reference : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

/-- In particular where the bias is constant. -/
theorem frame_reference_bias : Cert.quiescent_ReferenceIdeal_pre_bias_constant := fun m g _ => frame_reference m g trivial

/-- Where the bias is constant the kernel and the reference end with the same experts and the same weights. -/
theorem value : Cert.algebraic_KernelIdeal_ReferenceIdeal_pre_bias_constant := by
  intro m g m' g' hpre hagree
  refine ⟨_, _, Cert.Router.kernel_run m g, ?_⟩
  refine (θ_run Cert.ReferenceIdeal.defs _ _).mono (fun r h c => ?_) (Cert.ReferenceIdeal.Value.run (F := Ideal) m' g')
  obtain ⟨h0, h1, h2⟩ := h c
  obtain ⟨ax, aw, ab⟩ := hagree c
  obtain ⟨β, hβ⟩ := Cert.Router.bias_real _ _ _ (hpre c)
  have e0 := (h0.trans (Cert.Router.res_taken m' c)).trans
    ((congr (congr (congrArg Cert.Router.refTaken ax) aw) ab).trans (Cert.Router.taken_eq _ _ _ β hβ))
  have e1 := (h1.trans (Cert.Router.res_weight m' c)).trans
    ((congr (congr (congrArg Cert.Router.refWeight ax) aw) ab).trans (Cert.Router.weight_eq _ _ _ β hβ))
  exact ⟨e0, e1, h2⟩

/-- Every claim of the certificate. -/
theorem claim : Cert.Claim :=
  ⟨Cert.Kernel.Gen.facts, Cert.KernelIdeal.Gen.facts, Cert.ReferenceIdeal.Gen.facts, Cert.Router.biasFacts,
    frame_kernel, frame_ideal, frame_ideal_bias, frame_reference, frame_reference_bias, trivial, value⟩

end Cert.Proof

end
